-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norm_weights_one [hPre_norm_weights_one : Cert.Pre_norm_weights_one.Facts] (m : (ℓ : Loc Cert.KernelIdeal.nD Cert.KernelIdeal.τ Cert.KernelIdeal.sig) → Buf (Elt Ideal) ℓ) : Prop :=
  ∀ c : Dev Cert.KernelIdeal.nD,
    (Cert.Pre_norm_weights_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_norm_weights_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_norm_weights_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_norm_weights_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norm_weights_one [hPre_norm_weights_one : Cert.Pre_norm_weights_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norm_weights_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_norm_weights_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_norm_weights_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_norm_weights_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_norm_weights_one [hKernelIdeal : Cert.KernelIdeal.Facts] [hPre_norm_weights_one : Cert.Pre_norm_weights_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norm_weights_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_norm_weights_one [hReferenceIdeal : Cert.ReferenceIdeal.Facts] [hPre_norm_weights_one : Cert.Pre_norm_weights_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norm_weights_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_norm_weights_one [hKernelIdeal : Cert.KernelIdeal.Facts] [hReferenceIdeal : Cert.ReferenceIdeal.Facts] [hPre_norm_weights_one : Cert.Pre_norm_weights_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norm_weights_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_norm_weights_one : Cert.Pre_norm_weights_one.Facts),
    quiescent_Kernel (hKernel := hKernel)
    ∧ quiescent_KernelIdeal (hKernelIdeal := hKernelIdeal)
    ∧ quiescent_KernelIdeal_pre_norm_weights_one (hKernelIdeal := hKernelIdeal) (hPre_norm_weights_one := hPre_norm_weights_one)
    ∧ quiescent_ReferenceIdeal (hReferenceIdeal := hReferenceIdeal)
    ∧ quiescent_ReferenceIdeal_pre_norm_weights_one (hReferenceIdeal := hReferenceIdeal) (hPre_norm_weights_one := hPre_norm_weights_one)
    ∧ preserves_Kernel_KernelIdeal
    ∧ algebraic_KernelIdeal_ReferenceIdeal_pre_norm_weights_one (hKernelIdeal := hKernelIdeal) (hReferenceIdeal := hReferenceIdeal) (hPre_norm_weights_one := hPre_norm_weights_one)
-- ==== Pre_norm_weights_one.lean ====
abbrev S8x2048x1024 : Shape := ⟨3, ![8, 2048, 1024]⟩
abbrev S1024x1024 : Shape := ⟨2, ![1024, 1024]⟩
abbrev S64x256 : Shape := ⟨2, ![64, 256]⟩
abbrev S256x64 : Shape := ⟨2, ![256, 64]⟩
abbrev S64 : Shape := ⟨1, ![64]⟩
abbrev S1024 : Shape := ⟨1, ![1024]⟩
abbrev S1024x16 : Shape := ⟨2, ![1024, 16]⟩
abbrev S16 : Shape := ⟨1, ![16]⟩
abbrev S_ : Shape := ⟨0, ![]⟩

class Facts : Prop where
  bcast_S_S64 : S_.BroadcastsInDim S64 (![] : Fin 0 → Fin S64.rank)
  bcast_S_S1024 : S_.BroadcastsInDim S1024 (![] : Fin 0 → Fin S1024.rank)

variable [Facts]

def fn {F : FTy → Type} [FloatOps F] (main_arg0 : FVec F S8x2048x1024 .f32) (main_arg1 : FVec F S1024x1024 .f32) (main_arg2 : FVec F S1024x1024 .f32) (main_arg3 : FVec F S1024x1024 .f32) (main_arg4 : FVec F S64x256 .f32) (main_arg5 : FVec F S256x64 .f32) (main_arg6 : FVec F S64 .f32) (main_arg7 : FVec F S64 .f32) (main_arg8 : FVec F S1024 .f32) (main_arg9 : FVec F S1024 .f32) (main_arg10 : FVec F S1024x16 .f32) (main_arg11 : FVec F S16 .f32) (main_arg12 : FVec F S1024x16 .f32) (main_arg13 : FVec F S16 .f32) (main_arg14 : FVec F S1024x16 .f32) (main_arg15 : FVec F S16 .f32) : IVec S64 1 × IVec S64 1 × IVec S1024 1 × IVec S1024 1 :=
  let main_cst : FVec F S_ .f32 := constant S_ .f32 0x3F800000#32
  let main_v0 : FVec F S64 .f32 := broadcastInDim S64 ![] bcast_S_S64 main_cst
  let main_v1 : IVec S64 1 := cmpf .oeq main_arg6 main_v0
  let main_cst_0 : FVec F S_ .f32 := constant S_ .f32 0x3F800000#32
  let main_v2 : FVec F S64 .f32 := broadcastInDim S64 ![] bcast_S_S64 main_cst_0
  let main_v3 : IVec S64 1 := cmpf .oeq main_arg7 main_v2
  let main_cst_1 : FVec F S_ .f32 := constant S_ .f32 0x3F800000#32
  let main_v4 : FVec F S1024 .f32 := broadcastInDim S1024 ![] bcast_S_S1024 main_cst_1
  let main_v5 : IVec S1024 1 := cmpf .oeq main_arg8 main_v4
  let main_cst_2 : FVec F S_ .f32 := constant S_ .f32 0x3F800000#32
  let main_v6 : FVec F S1024 .f32 := broadcastInDim S1024 ![] bcast_S_S1024 main_cst_2
  let main_v7 : IVec S1024 1 := cmpf .oeq main_arg9 main_v6
  (main_v1, main_v3, main_v5, main_v7)
-- ==== Kernel.lean ====
abbrev S8x2048x1024 : Shape := ⟨3, ![8, 2048, 1024]⟩
abbrev S1024x1024 : Shape := ⟨2, ![1024, 1024]⟩
abbrev S64x256 : Shape := ⟨2, ![64, 256]⟩
abbrev S256x64 : Shape := ⟨2, ![256, 64]⟩
abbrev S64 : Shape := ⟨1, ![64]⟩
abbrev S1024 : Shape := ⟨1, ![1024]⟩
abbrev S1024x16 : Shape := ⟨2, ![1024, 16]⟩
abbrev S16 : Shape := ⟨1, ![16]⟩
abbrev S1024x32 : Shape := ⟨2, ![1024, 32]⟩
abbrev S32 : Shape := ⟨1, ![32]⟩
abbrev S1x32 : Shape := ⟨2, ![1, 32]⟩
abbrev S8x1024x2048 : Shape := ⟨3, ![8, 1024, 2048]⟩
abbrev S8x16x2048 : Shape := ⟨3, ![8, 16, 2048]⟩
abbrev S1x512x1024 : Shape := ⟨3, ![1, 512, 1024]⟩
abbrev S1x1024x512 : Shape := ⟨3, ![1, 1024, 512]⟩
abbrev S1x16x512 : Shape := ⟨3, ![1, 16, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x32 : Shape := ⟨2, ![512, 32]⟩
abbrev S32x512 : Shape := ⟨2, ![32, 512]⟩
abbrev S16x64x512 : Shape := ⟨3, ![16, 64, 512]⟩
abbrev S16x512 : Shape := ⟨2, ![16, 512]⟩
abbrev S16x1x512 : Shape := ⟨3, ![16, 1, 512]⟩
abbrev S8x4x256x2048 : Shape := ⟨4, ![8, 4, 256, 2048]⟩
abbrev S8x4x4x2048 : Shape := ⟨4, ![8, 4, 4, 2048]⟩
abbrev S1x1x256x2048 : Shape := ⟨4, ![1, 1, 256, 2048]⟩
abbrev S1x1x4x2048 : Shape := ⟨4, ![1, 1, 4, 2048]⟩
abbrev S1x2048x256 : Shape := ⟨3, ![1, 2048, 256]⟩
abbrev S256x2048 : Shape := ⟨2, ![256, 2048]⟩
abbrev S4x2048 : Shape := ⟨2, ![4, 2048]⟩
abbrev S64x2048 : Shape := ⟨2, ![64, 2048]⟩
abbrev S2048 : Shape := ⟨1, ![2048]⟩
abbrev S1x2048 : Shape := ⟨2, ![1, 2048]⟩
abbrev S256 : Shape := ⟨1, ![256]⟩
abbrev S1x256 : Shape := ⟨2, ![1, 256]⟩
abbrev S1 : Shape := ⟨1, ![1]⟩
abbrev S1x1 : Shape := ⟨2, ![1, 1]⟩
abbrev S1x64 : Shape := ⟨2, ![1, 64]⟩
abbrev S2048x256 : Shape := ⟨2, ![2048, 256]⟩

abbrev nBuf : Space → Nat
  | .hbm => 30
  | .vmem => 31
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S64x256, .f32⟩
  | .hbm, ⟨5, _⟩ => ⟨S256x64, .f32⟩
  | .hbm, ⟨6, _⟩ => ⟨S64, .f32⟩
  | .hbm, ⟨7, _⟩ => ⟨S64, .f32⟩
  | .hbm, ⟨8, _⟩ => ⟨S1024, .f32⟩
  | .hbm, ⟨9, _⟩ => ⟨S1024, .f32⟩
  | .hbm, ⟨10, _⟩ => ⟨S1024x16, .f32⟩
  | .hbm, ⟨11, _⟩ => ⟨S16, .f32⟩
  | .hbm, ⟨12, _⟩ => ⟨S1024x16, .f32⟩
  | .hbm, ⟨13, _⟩ => ⟨S16, .f32⟩
  | .hbm, ⟨14, _⟩ => ⟨S1024x16, .f32⟩
  | .hbm, ⟨15, _⟩ => ⟨S16, .f32⟩
  | .hbm, ⟨16, _⟩ => ⟨S1024x32, .f32⟩
  | .hbm, ⟨17, _⟩ => ⟨S32, .f32⟩
  | .hbm, ⟨18, _⟩ => ⟨S1x32, .f32⟩
  | .hbm, ⟨19, _⟩ => ⟨S8x1024x2048, .bf16⟩
  | .hbm, ⟨20, _⟩ => ⟨S8x1024x2048, .bf16⟩
  | .hbm, ⟨21, _⟩ => ⟨S8x1024x2048, .f32⟩
  | .hbm, ⟨22, _⟩ => ⟨S8x16x2048, .f32⟩
  | .hbm, ⟨23, _⟩ => ⟨S8x16x2048, .f32⟩
  | .hbm, ⟨24, _⟩ => ⟨S8x4x256x2048, .bf16⟩
  | .hbm, ⟨25, _⟩ => ⟨S8x4x256x2048, .bf16⟩
  | .hbm, ⟨26, _⟩ => ⟨S8x4x256x2048, .f32⟩
  | .hbm, ⟨27, _⟩ => ⟨S8x4x4x2048, .f32⟩
  | .hbm, ⟨28, _⟩ => ⟨S8x4x4x2048, .f32⟩
  | .hbm, ⟨29, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x32, .f32⟩
  | .local _ .vmem, ⟨6, _⟩ => ⟨S1x32, .f32⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .f32⟩
  | .local _ .vmem, ⟨12, _⟩ => ⟨S1x1024x512, .f32⟩
  | .local _ .vmem, ⟨13, _⟩ => ⟨S1x16x512, .f32⟩
  | .local _ .vmem, ⟨14, _⟩ => ⟨S1x16x512, .f32⟩
  | .local _ .vmem, ⟨15, _⟩ => ⟨S1x16x512, .f32⟩
  | .local _ .vmem, ⟨16, _⟩ => ⟨S1x16x512, .f32⟩
  | .local _ .vmem, ⟨17, _⟩ => ⟨S1x1x256x2048, .bf16⟩
  | .local _ .vmem, ⟨18, _⟩ => ⟨S1x1x256x2048, .bf16⟩
  | .local _ .vmem, ⟨19, _⟩ => ⟨S1x1x256x2048, .bf16⟩
  | .local _ .vmem, ⟨20, _⟩ => ⟨S1x1x256x2048, .bf16⟩
  | .local _ .vmem, ⟨21, _⟩ => ⟨S1x1x256x2048, .f32⟩
  | .local _ .vmem, ⟨22, _⟩ => ⟨S1x1x256x2048, .f32⟩
  | .local _ .vmem, ⟨23, _⟩ => ⟨S1x1x4x2048, .f32⟩
  | .local _ .vmem, ⟨24, _⟩ => ⟨S1x1x4x2048, .f32⟩
  | .local _ .vmem, ⟨25, _⟩ => ⟨S1x1x4x2048, .f32⟩
  | .local _ .vmem, ⟨26, _⟩ => ⟨S1x1x4x2048, .f32⟩
  | .local _ .vmem, ⟨27, _⟩ => ⟨S64x256, .f32⟩
  | .local _ .vmem, ⟨28, _⟩ => ⟨S256x64, .f32⟩
  | .local _ .vmem, ⟨29, _⟩ => ⟨S1x2048x256, .f32⟩
  | .local _ .vmem, ⟨30, _⟩ => ⟨S1x2048x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev main_v3_4 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg7_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem6_0 : DmaSem sig := 28
abbrev cc1_sem7_0 : DmaSem sig := 29
abbrev cc1_sem7_1 : DmaSem sig := 30

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![8, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1x256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x4x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x4x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S64x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S256x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== ReferenceIdeal.lean ====
abbrev S8x2048x1024 : Shape := ⟨3, ![8, 2048, 1024]⟩
abbrev S1024x1024 : Shape := ⟨2, ![1024, 1024]⟩
abbrev S64x256 : Shape := ⟨2, ![64, 256]⟩
abbrev S256x64 : Shape := ⟨2, ![256, 64]⟩
abbrev S64 : Shape := ⟨1, ![64]⟩
abbrev S1024 : Shape := ⟨1, ![1024]⟩
abbrev S1024x16 : Shape := ⟨2, ![1024, 16]⟩
abbrev S16 : Shape := ⟨1, ![16]⟩
abbrev S128x64x256 : Shape := ⟨3, ![128, 64, 256]⟩
abbrev S128x256x64 : Shape := ⟨3, ![128, 256, 64]⟩
abbrev S_ : Shape := ⟨0, ![]⟩
abbrev S1x1x1024 : Shape := ⟨3, ![1, 1, 1024]⟩
abbrev S8x2048 : Shape := ⟨2, ![8, 2048]⟩
abbrev S8x2048x1 : Shape := ⟨3, ![8, 2048, 1]⟩
abbrev S8x2048x16x64 : Shape := ⟨4, ![8, 2048, 16, 64]⟩
abbrev S8x16x2048x64 : Shape := ⟨4, ![8, 16, 2048, 64]⟩
abbrev S128x2048x64 : Shape := ⟨3, ![128, 2048, 64]⟩
abbrev S1x1x64 : Shape := ⟨3, ![1, 1, 64]⟩
abbrev S128x2048 : Shape := ⟨2, ![128, 2048]⟩
abbrev S128x2048x1 : Shape := ⟨3, ![128, 2048, 1]⟩
abbrev S8x2048x16 : Shape := ⟨3, ![8, 2048, 16]⟩
abbrev S1x1x16 : Shape := ⟨3, ![1, 1, 16]⟩
abbrev S8x16x2048 : Shape := ⟨3, ![8, 16, 2048]⟩
abbrev S128x2048x256 : Shape := ⟨3, ![128, 2048, 256]⟩
abbrev S128x16384 : Shape := ⟨2, ![128, 16384]⟩
abbrev S128 : Shape := ⟨1, ![128]⟩
abbrev S128x1x1 : Shape := ⟨3, ![128, 1, 1]⟩

abbrev nBuf : Space → Nat
  | .hbm => 330
  | .vmem => 0
  | .smem => 0
  | _ => 0

abbrev hbmTy0_0 (i : Nat) : BufTy := match i % 128 with
  | 0 => ⟨S8x2048x1024, .f32⟩
  | 1 => ⟨S1024x1024, .f32⟩
  | 2 => ⟨S1024x1024, .f32⟩
  | 3 => ⟨S1024x1024, .f32⟩
  | 4 => ⟨S64x256, .f32⟩
  | 5 => ⟨S256x64, .f32⟩
  | 6 => ⟨S64, .f32⟩
  | 7 => ⟨S64, .f32⟩
  | 8 => ⟨S1024, .f32⟩
  | 9 => ⟨S1024, .f32⟩
  | 10 => ⟨S1024x16, .f32⟩
  | 11 => ⟨S16, .f32⟩
  | 12 => ⟨S1024x16, .f32⟩
  | 13 => ⟨S16, .f32⟩
  | 14 => ⟨S1024x16, .f32⟩
  | 15 => ⟨S16, .f32⟩
  | 16 => ⟨S128x64x256, .f32⟩
  | 17 => ⟨S128x256x64, .f32⟩
  | 18 => ⟨S_, .f32⟩
  | 19 => ⟨S128x64x256, .f32⟩
  | 20 => ⟨S_, .f32⟩
  | 21 => ⟨S128x256x64, .f32⟩
  | 22 => ⟨S1x1x1024, .f32⟩
  | 23 => ⟨S8x2048x1024, .f32⟩
  | 24 => ⟨S8x2048x1024, .f32⟩
  | 25 => ⟨S8x2048x1024, .f32⟩
  | 26 => ⟨S_, .f32⟩
  | 27 => ⟨S8x2048, .f32⟩
  | 28 => ⟨S8x2048x1, .f32⟩
  | 29 => ⟨S_, .f32⟩
  | 30 => ⟨S8x2048x1, .f32⟩
  | 31 => ⟨S8x2048x1, .f32⟩
  | 32 => ⟨S_, .f32⟩
  | 33 => ⟨S8x2048x1, .f32⟩
  | 34 => ⟨S8x2048x1, .f32⟩
  | 35 => ⟨S8x2048x1, .f32⟩
  | 36 => ⟨S8x2048x1024, .f32⟩
  | 37 => ⟨S8x2048x1024, .f32⟩
  | 38 => ⟨S8x2048x1024, .f32⟩
  | 39 => ⟨S8x2048x16x64, .f32⟩
  | 40 => ⟨S8x16x2048x64, .f32⟩
  | 41 => ⟨S128x2048x64, .f32⟩
  | 42 => ⟨S1x1x64, .f32⟩
  | 43 => ⟨S128x2048x64, .f32⟩
  | 44 => ⟨S128x2048x64, .f32⟩
  | 45 => ⟨S128x2048x64, .f32⟩
  | 46 => ⟨S_, .f32⟩
  | 47 => ⟨S128x2048, .f32⟩
  | 48 => ⟨S128x2048x1, .f32⟩
  | 49 => ⟨S_, .f32⟩
  | 50 => ⟨S128x2048x1, .f32⟩
  | 51 => ⟨S128x2048x1, .f32⟩
  | 52 => ⟨S_, .f32⟩
  | 53 => ⟨S128x2048x1, .f32⟩
  | 54 => ⟨S128x2048x1, .f32⟩
  | 55 => ⟨S128x2048x1, .f32⟩
  | 56 => ⟨S128x2048x64, .f32⟩
  | 57 => ⟨S128x2048x64, .f32⟩
  | 58 => ⟨S8x2048x1024, .f32⟩
  | 59 => ⟨S8x2048x16x64, .f32⟩
  | 60 => ⟨S8x16x2048x64, .f32⟩
  | 61 => ⟨S128x2048x64, .f32⟩
  | 62 => ⟨S8x2048x16, .f32⟩
  | 63 => ⟨S1x1x16, .f32⟩
  | 64 => ⟨S8x2048x16, .f32⟩
  | 65 => ⟨S8x2048x16, .f32⟩
  | 66 => ⟨S8x2048x16, .f32⟩
  | 67 => ⟨S8x2048x16, .f32⟩
  | 68 => ⟨S_, .f32⟩
  | 69 => ⟨S8x2048x16, .f32⟩
  | 70 => ⟨S8x2048x16, .f32⟩
  | 71 => ⟨S_, .f32⟩
  | 72 => ⟨S8x2048x16, .f32⟩
  | 73 => ⟨S8x2048x16, .f32⟩
  | 74 => ⟨S8x2048x16, .f32⟩
  | 75 => ⟨S1x1x16, .f32⟩
  | 76 => ⟨S8x2048x16, .f32⟩
  | 77 => ⟨S8x2048x16, .f32⟩
  | 78 => ⟨S8x2048x16, .f32⟩
  | 79 => ⟨S8x2048x16, .f32⟩
  | 80 => ⟨S_, .f32⟩
  | 81 => ⟨S8x2048x16, .f32⟩
  | 82 => ⟨S8x2048x16, .f32⟩
  | 83 => ⟨S_, .f32⟩
  | 84 => ⟨S8x2048x16, .f32⟩
  | 85 => ⟨S8x2048x16, .f32⟩
  | 86 => ⟨S_, .f32⟩
  | 87 => ⟨S8x2048x16, .f32⟩
  | 88 => ⟨S8x2048x16, .f32⟩
  | 89 => ⟨S8x2048x16, .f32⟩
  | 90 => ⟨S1x1x16, .f32⟩
  | 91 => ⟨S8x2048x16, .f32⟩
  | 92 => ⟨S8x2048x16, .f32⟩
  | 93 => ⟨S8x2048x16, .f32⟩
  | 94 => ⟨S8x2048x16, .f32⟩
  | 95 => ⟨S_, .f32⟩
  | 96 => ⟨S8x2048x16, .f32⟩
  | 97 => ⟨S8x2048x16, .f32⟩
  | 98 => ⟨S_, .f32⟩
  | 99 => ⟨S8x2048x16, .f32⟩
  | 100 => ⟨S8x2048x16, .f32⟩
  | 101 => ⟨S8x16x2048, .f32⟩
  | 102 => ⟨S128x2048, .f32⟩
  | 103 => ⟨S8x16x2048, .f32⟩
  | 104 => ⟨S128x2048, .f32⟩
  | 105 => ⟨S8x16x2048, .f32⟩
  | 106 => ⟨S128x2048, .f32⟩
  | 107 => ⟨S128x2048x256, .f32⟩
  | 108 => ⟨S_, .f32⟩
  | 109 => ⟨S128x2048x256, .f32⟩
  | 110 => ⟨S128x2048x256, .f32⟩
  | 111 => ⟨S_, .f32⟩
  | 112 => ⟨S128x2048x256, .f32⟩
  | 113 => ⟨S128x2048x256, .f32⟩
  | 114 => ⟨S128x2048x256, .f32⟩
  | 115 => ⟨S_, .f32⟩
  | 116 => ⟨S128x2048x256, .f32⟩
  | 117 => ⟨S128x2048x256, .f32⟩
  | 118 => ⟨S128x2048x256, .f32⟩
  | 119 => ⟨S128x2048x64, .f32⟩
  | 120 => ⟨S128x2048x64, .f32⟩
  | 121 => ⟨S_, .f32⟩
  | 122 => ⟨S128x2048, .f32⟩
  | 123 => ⟨S128x2048x1, .f32⟩
  | 124 => ⟨S_, .f32⟩
  | 125 => ⟨S128x2048x1, .f32⟩
  | 126 => ⟨S128x2048x1, .f32⟩
  | 127 => ⟨S_, .f32⟩
  | _ => ⟨S8x2048x1024, .f32⟩

abbrev hbmTy0_1 (i : Nat) : BufTy := match i % 128 with
  | 0 => ⟨S128x2048x1, .f32⟩
  | 1 => ⟨S128x2048x1, .f32⟩
  | 2 => ⟨S128x2048x1, .f32⟩
  | 3 => ⟨S128x2048x64, .f32⟩
  | 4 => ⟨S128x2048x64, .f32⟩
  | 5 => ⟨S128x2048x64, .f32⟩
  | 6 => ⟨S128x2048x1, .f32⟩
  | 7 => ⟨S_, .f32⟩
  | 8 => ⟨S128x2048x1, .f32⟩
  | 9 => ⟨S128x2048x1, .f32⟩
  | 10 => ⟨S128x2048x64, .f32⟩
  | 11 => ⟨S128x2048x64, .f32⟩
  | 12 => ⟨S128x2048x64, .f32⟩
  | 13 => ⟨S128x2048x64, .f32⟩
  | 14 => ⟨S_, .f32⟩
  | 15 => ⟨S128x2048, .f32⟩
  | 16 => ⟨S128x2048x1, .f32⟩
  | 17 => ⟨S128x2048x64, .f32⟩
  | 18 => ⟨S128x2048x64, .f32⟩
  | 19 => ⟨S_, .f32⟩
  | 20 => ⟨S128x2048x64, .f32⟩
  | 21 => ⟨S128x2048x64, .f32⟩
  | 22 => ⟨S128x2048x64, .f32⟩
  | 23 => ⟨S128x2048x64, .f32⟩
  | 24 => ⟨S128x2048x64, .f32⟩
  | 25 => ⟨S128x256x64, .f32⟩
  | 26 => ⟨S128x64x256, .f32⟩
  | 27 => ⟨S128x2048x256, .f32⟩
  | 28 => ⟨S_, .f32⟩
  | 29 => ⟨S128x2048x256, .f32⟩
  | 30 => ⟨S128x2048x256, .f32⟩
  | 31 => ⟨S128x2048x256, .f32⟩
  | 32 => ⟨S_, .f32⟩
  | 33 => ⟨S128x2048x256, .f32⟩
  | 34 => ⟨S128x2048x256, .f32⟩
  | 35 => ⟨S_, .f32⟩
  | 36 => ⟨S128x2048x256, .f32⟩
  | 37 => ⟨S128x2048x256, .f32⟩
  | 38 => ⟨S_, .f32⟩
  | 39 => ⟨S128x2048x256, .f32⟩
  | 40 => ⟨S128x2048x256, .f32⟩
  | 41 => ⟨S128x2048x256, .f32⟩
  | 42 => ⟨S128x2048x256, .f32⟩
  | 43 => ⟨S_, .f32⟩
  | 44 => ⟨S128x2048x256, .f32⟩
  | 45 => ⟨S128x2048x256, .f32⟩
  | 46 => ⟨S128x2048x256, .f32⟩
  | 47 => ⟨S128x2048x256, .f32⟩
  | 48 => ⟨S128x2048x256, .f32⟩
  | 49 => ⟨S128x64x256, .f32⟩
  | 50 => ⟨S128x16384, .f32⟩
  | 51 => ⟨S128x16384, .f32⟩
  | 52 => ⟨S_, .f32⟩
  | 53 => ⟨S128, .f32⟩
  | 54 => ⟨S_, .f32⟩
  | 55 => ⟨S128, .f32⟩
  | 56 => ⟨S128, .f32⟩
  | 57 => ⟨S128x16384, .f32⟩
  | 58 => ⟨S128x16384, .f32⟩
  | 59 => ⟨S_, .f32⟩
  | 60 => ⟨S128, .f32⟩
  | 61 => ⟨S128, .f32⟩
  | 62 => ⟨S128, .f32⟩
  | 63 => ⟨S_, .f32⟩
  | 64 => ⟨S128, .f32⟩
  | 65 => ⟨S128, .f32⟩
  | 66 => ⟨S_, .f32⟩
  | 67 => ⟨S128, .f32⟩
  | 68 => ⟨S128, .f32⟩
  | 69 => ⟨S_, .f32⟩
  | 70 => ⟨S128, .f32⟩
  | 71 => ⟨S128, .f32⟩
  | 72 => ⟨S128x1x1, .f32⟩
  | 73 => ⟨S128x64x256, .f32⟩
  | 74 => ⟨S128x64x256, .f32⟩
  | 75 => ⟨S128x256x64, .f32⟩
  | 76 => ⟨S128x256x64, .f32⟩
  | 77 => ⟨S_, .f32⟩
  | 78 => ⟨S128, .f32⟩
  | 79 => ⟨S_, .f32⟩
  | 80 => ⟨S128, .f32⟩
  | 81 => ⟨S128, .f32⟩
  | 82 => ⟨S128x1x1, .f32⟩
  | 83 => ⟨S_, .f32⟩
  | 84 => ⟨S128, .f32⟩
  | 85 => ⟨S_, .f32⟩
  | 86 => ⟨S128, .f32⟩
  | 87 => ⟨S128, .f32⟩
  | 88 => ⟨S128x1x1, .f32⟩
  | 89 => ⟨S128x64x256, .f32⟩
  | 90 => ⟨S128x64x256, .f32⟩
  | 91 => ⟨S128x64x256, .f32⟩
  | 92 => ⟨S_, .f32⟩
  | 93 => ⟨S128x1x1, .f32⟩
  | 94 => ⟨S128x1x1, .f32⟩
  | 95 => ⟨S128x64x256, .f32⟩
  | 96 => ⟨S128x64x256, .f32⟩
  | 97 => ⟨S128x64x256, .f32⟩
  | 98 => ⟨S128x64x256, .f32⟩
  | 99 => ⟨S_, .f32⟩
  | 100 => ⟨S128x64x256, .f32⟩
  | 101 => ⟨S128x64x256, .i1⟩
  | 102 => ⟨S128x64x256, .f32⟩
  | 103 => ⟨S128x256x64, .f32⟩
  | 104 => ⟨S128x256x64, .f32⟩
  | 105 => ⟨S128x256x64, .f32⟩
  | 106 => ⟨S_, .f32⟩
  | 107 => ⟨S128x1x1, .f32⟩
  | 108 => ⟨S128x1x1, .f32⟩
  | 109 => ⟨S128x256x64, .f32⟩
  | 110 => ⟨S128x256x64, .f32⟩
  | 111 => ⟨S128x256x64, .f32⟩
  | 112 => ⟨S128x256x64, .f32⟩
  | 113 => ⟨S_, .f32⟩
  | 114 => ⟨S128x256x64, .f32⟩
  | 115 => ⟨S128x256x64, .i1⟩
  | 116 => ⟨S128x256x64, .f32⟩
  | 117 => ⟨S1x1x1024, .f32⟩
  | 118 => ⟨S8x2048x1024, .f32⟩
  | 119 => ⟨S8x2048x1024, .f32⟩
  | 120 => ⟨S8x2048x1024, .f32⟩
  | 121 => ⟨S_, .f32⟩
  | 122 => ⟨S8x2048, .f32⟩
  | 123 => ⟨S8x2048x1, .f32⟩
  | 124 => ⟨S_, .f32⟩
  | 125 => ⟨S8x2048x1, .f32⟩
  | 126 => ⟨S8x2048x1, .f32⟩
  | 127 => ⟨S_, .f32⟩
  | _ => ⟨S8x2048x1024, .f32⟩

abbrev hbmTy0_2 (i : Nat) : BufTy := match i % 128 with
  | 0 => ⟨S8x2048x1, .f32⟩
  | 1 => ⟨S8x2048x1, .f32⟩
  | 2 => ⟨S8x2048x1, .f32⟩
  | 3 => ⟨S8x2048x1024, .f32⟩
  | 4 => ⟨S8x2048x1024, .f32⟩
  | 5 => ⟨S8x2048x1024, .f32⟩
  | 6 => ⟨S8x2048x16x64, .f32⟩
  | 7 => ⟨S8x16x2048x64, .f32⟩
  | 8 => ⟨S128x2048x64, .f32⟩
  | 9 => ⟨S1x1x64, .f32⟩
  | 10 => ⟨S128x2048x64, .f32⟩
  | 11 => ⟨S128x2048x64, .f32⟩
  | 12 => ⟨S128x2048x64, .f32⟩
  | 13 => ⟨S_, .f32⟩
  | 14 => ⟨S128x2048, .f32⟩
  | 15 => ⟨S128x2048x1, .f32⟩
  | 16 => ⟨S_, .f32⟩
  | 17 => ⟨S128x2048x1, .f32⟩
  | 18 => ⟨S128x2048x1, .f32⟩
  | 19 => ⟨S_, .f32⟩
  | 20 => ⟨S128x2048x1, .f32⟩
  | 21 => ⟨S128x2048x1, .f32⟩
  | 22 => ⟨S128x2048x1, .f32⟩
  | 23 => ⟨S128x2048x64, .f32⟩
  | 24 => ⟨S128x2048x64, .f32⟩
  | 25 => ⟨S128x2048x256, .f32⟩
  | 26 => ⟨S_, .f32⟩
  | 27 => ⟨S128x2048x256, .f32⟩
  | 28 => ⟨S128x2048x256, .f32⟩
  | 29 => ⟨S_, .f32⟩
  | 30 => ⟨S128x2048x256, .f32⟩
  | 31 => ⟨S128x2048x256, .f32⟩
  | 32 => ⟨S128x2048x256, .f32⟩
  | 33 => ⟨S_, .f32⟩
  | 34 => ⟨S128x2048x256, .f32⟩
  | 35 => ⟨S128x2048x256, .f32⟩
  | 36 => ⟨S128x2048x256, .f32⟩
  | 37 => ⟨S128x2048x64, .f32⟩
  | 38 => ⟨S_, .f32⟩
  | 39 => ⟨S_, .f32⟩
  | 40 => ⟨S_, .f32⟩
  | 41 => ⟨S128x2048x64, .i1⟩
  | 42 => ⟨S_, .f32⟩
  | 43 => ⟨S128x2048x64, .f32⟩
  | 44 => ⟨S128x2048x64, .f32⟩
  | 45 => ⟨S_, .f32⟩
  | 46 => ⟨S128x2048x64, .f32⟩
  | 47 => ⟨S128x2048x64, .i1⟩
  | 48 => ⟨S_, .f32⟩
  | 49 => ⟨S128x2048x64, .f32⟩
  | 50 => ⟨S128x2048x64, .f32⟩
  | 51 => ⟨S_, .f32⟩
  | 52 => ⟨S128x2048x64, .f32⟩
  | 53 => ⟨S128x2048x64, .i1⟩
  | 54 => ⟨S_, .f32⟩
  | 55 => ⟨S128x2048x64, .f32⟩
  | 56 => ⟨S128x2048x64, .f32⟩
  | 57 => ⟨S128x2048x64, .f32⟩
  | 58 => ⟨S_, .f32⟩
  | 59 => ⟨S128x2048, .f32⟩
  | 60 => ⟨S128x2048x1, .f32⟩
  | 61 => ⟨S_, .f32⟩
  | 62 => ⟨S128x2048x1, .f32⟩
  | 63 => ⟨S128x2048x1, .f32⟩
  | 64 => ⟨S_, .f32⟩
  | 65 => ⟨S128x2048x1, .f32⟩
  | 66 => ⟨S128x2048x1, .f32⟩
  | 67 => ⟨S128x2048x1, .f32⟩
  | 68 => ⟨S128x2048x64, .f32⟩
  | 69 => ⟨S128x2048x64, .f32⟩
  | 70 => ⟨S128x2048x64, .f32⟩
  | 71 => ⟨S8x16x2048x64, .f32⟩
  | 72 => ⟨S8x2048x16x64, .f32⟩
  | 73 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_cst_6 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_v78 : Ref sig .tc := ⟨.hbm, 110, rfl⟩
abbrev main_cst_15 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_16 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_17 : Ref sig .tc := ⟨.hbm, 121, rfl⟩
abbrev main_v87 : Ref sig .tc := ⟨.hbm, 122, rfl⟩
abbrev main_v88 : Ref sig .tc := ⟨.hbm, 123, rfl⟩
abbrev main_cst_18 : Ref sig .tc := ⟨.hbm, 124, rfl⟩
abbrev main_v89 : Ref sig .tc := ⟨.hbm, 125, rfl⟩
abbrev main_v90 : Ref sig .tc := ⟨.hbm, 126, rfl⟩
abbrev main_cst_19 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_20 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_21 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_22 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_23 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_24 : Ref sig .tc := ⟨.hbm, 160, rfl⟩
abbrev main_v119 : Ref sig .tc := ⟨.hbm, 161, rfl⟩
abbrev main_v120 : Ref sig .tc := ⟨.hbm, 162, rfl⟩
abbrev main_cst_25 : Ref sig .tc := ⟨.hbm, 163, rfl⟩
abbrev main_v121 : Ref sig .tc := ⟨.hbm, 164, rfl⟩
abbrev main_v122 : Ref sig .tc := ⟨.hbm, 165, rfl⟩
abbrev main_cst_26 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_27 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_28 : Ref sig .tc := ⟨.hbm, 180, rfl⟩
abbrev main_v135 : Ref sig .tc := ⟨.hbm, 181, rfl⟩
abbrev main_cst_29 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_30 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_31 : Ref sig .tc := ⟨.hbm, 191, rfl⟩
abbrev main_v143 : Ref sig .tc := ⟨.hbm, 192, rfl⟩
abbrev main_v144 : Ref sig .tc := ⟨.hbm, 193, rfl⟩
abbrev main_cst_32 : Ref sig .tc := ⟨.hbm, 194, rfl⟩
abbrev main_v145 : Ref sig .tc := ⟨.hbm, 195, rfl⟩
abbrev main_v146 : Ref sig .tc := ⟨.hbm, 196, rfl⟩
abbrev main_cst_33 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_34 : Ref sig .tc := ⟨.hbm, 205, rfl⟩
abbrev main_v154 : Ref sig .tc := ⟨.hbm, 206, rfl⟩
abbrev main_cst_35 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_cst_36 : Ref sig .tc := ⟨.hbm, 211, rfl⟩
abbrev main_v158 : Ref sig .tc := ⟨.hbm, 212, rfl⟩
abbrev main_cst_37 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_cst_38 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_cst_39 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_cst_40 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_cst_41 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_cst_42 : Ref sig .tc := ⟨.hbm, 249, rfl⟩
abbrev main_v190 : Ref sig .tc := ⟨.hbm, 250, rfl⟩
abbrev main_v191 : Ref sig .tc := ⟨.hbm, 251, rfl⟩
abbrev main_cst_43 : Ref sig .tc := ⟨.hbm, 252, rfl⟩
abbrev main_v192 : Ref sig .tc := ⟨.hbm, 253, rfl⟩
abbrev main_v193 : Ref sig .tc := ⟨.hbm, 254, rfl⟩
abbrev main_cst_44 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_cst_45 : Ref sig .tc := ⟨.hbm, 269, rfl⟩
abbrev main_v207 : Ref sig .tc := ⟨.hbm, 270, rfl⟩
abbrev main_v208 : Ref sig .tc := ⟨.hbm, 271, rfl⟩
abbrev main_cst_46 : Ref sig .tc := ⟨.hbm, 272, rfl⟩
abbrev main_v209 : Ref sig .tc := ⟨.hbm, 273, rfl⟩
abbrev main_v210 : Ref sig .tc := ⟨.hbm, 274, rfl⟩
abbrev main_cst_47 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_cst_48 : Ref sig .tc := ⟨.hbm, 282, rfl⟩
abbrev main_v217 : Ref sig .tc := ⟨.hbm, 283, rfl⟩
abbrev main_v218 : Ref sig .tc := ⟨.hbm, 284, rfl⟩
abbrev main_cst_49 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_cst_50 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_cst_51 : Ref sig .tc := ⟨.hbm, 294, rfl⟩
abbrev main_cst_52 : Ref sig .tc := ⟨.hbm, 295, rfl⟩
abbrev main_cst_53 : Ref sig .tc := ⟨.hbm, 296, rfl⟩
abbrev main_call2_v0 : Ref sig .tc := ⟨.hbm, 297, rfl⟩
abbrev main_call2_v1 : Ref sig .tc := ⟨.hbm, 298, rfl⟩
abbrev main_call2_call0_v0 : Ref sig .tc := ⟨.hbm, 299, rfl⟩
abbrev main_call2_v2 : Ref sig .tc := ⟨.hbm, 300, rfl⟩
abbrev main_call2_cst : Ref sig .tc := ⟨.hbm, 301, rfl⟩
abbrev main_call2_v3 : Ref sig .tc := ⟨.hbm, 302, rfl⟩
abbrev main_call2_v4 : Ref sig .tc := ⟨.hbm, 303, rfl⟩
abbrev main_call2_v5 : Ref sig .tc := ⟨.hbm, 304, rfl⟩
abbrev main_call2_call1_v0 : Ref sig .tc := ⟨.hbm, 305, rfl⟩
abbrev main_call2_v6 : Ref sig .tc := ⟨.hbm, 306, rfl⟩
abbrev main_call2_cst_0 : Ref sig .tc := ⟨.hbm, 307, rfl⟩
abbrev main_call2_v7 : Ref sig .tc := ⟨.hbm, 308, rfl⟩
abbrev main_call2_v8 : Ref sig .tc := ⟨.hbm, 309, rfl⟩
abbrev main_call2_v9 : Ref sig .tc := ⟨.hbm, 310, rfl⟩
abbrev main_call2_call2_v0 : Ref sig .tc := ⟨.hbm, 311, rfl⟩
abbrev main_v226 : Ref sig .tc := ⟨.hbm, 312, rfl⟩
abbrev main_v227 : Ref sig .tc := ⟨.hbm, 313, rfl⟩
abbrev main_cst_54 : Ref sig .tc := ⟨.hbm, 314, rfl⟩
abbrev main_v228 : Ref sig .tc := ⟨.hbm, 315, rfl⟩
abbrev main_v229 : Ref sig .tc := ⟨.hbm, 316, rfl⟩
abbrev main_cst_55 : Ref sig .tc := ⟨.hbm, 317, rfl⟩
abbrev main_v230 : Ref sig .tc := ⟨.hbm, 318, rfl⟩
abbrev main_v231 : Ref sig .tc := ⟨.hbm, 319, rfl⟩
abbrev main_cst_56 : Ref sig .tc := ⟨.hbm, 320, rfl⟩
abbrev main_v232 : Ref sig .tc := ⟨.hbm, 321, rfl⟩
abbrev main_v233 : Ref sig .tc := ⟨.hbm, 322, rfl⟩
abbrev main_v234 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩

abbrev nD : Nat := 1
abbrev τ : Topo := Topo.v7x

variable {F : FTy → Type} [FloatOps F]
-- ==== Proof.Spec.lean ====
/- The memory layer on the extended reals, in the reference's own shape: what one head computes from its keys, values,
   queries and gates, and what the projections compute from a row of the input. Positions come first, channels second. -/
module

public import Idealize.ShloMosaic.PureOps.Ideal.Laws

@[expose] public section

noncomputable section

namespace Cert.Proof.Spec

open Idealize.ShloMosaic
open scoped BigOperators

/-- The extended real a single-precision word denotes. -/
abbrev w32 (b : BitVec 32) : EReal := Ideal.ofBits .f32 b

/-- Positions by channels of one head. -/
abbrev Rows := Fin 2048 → Fin 64 → EReal
/-- Positions by hidden channels. -/
abbrev Hid := Fin 2048 → Fin 256 → EReal
/-- One number per position. -/
abbrev Gate := Fin 2048 → EReal
/-- The first memory layer's weights. -/
abbrev Mat0 := Fin 64 → Fin 256 → EReal
/-- The second memory layer's weights. -/
abbrev Mat1 := Fin 256 → Fin 64 → EReal

/-- The first memory layer. -/
def lin0 (W0 : Mat0) (x : Rows) : Hid := fun s j => ∑ i, x s i * W0 i j
/-- One plus the error function of the scaled input. -/
def opc (p : EReal) : EReal := w32 0x3F800000#32 + Ideal.erf (p * w32 0x3F3504F3#32)
/-- The exact GELU. -/
def gelu (p : EReal) : EReal := w32 0x3F000000#32 * p * opc p
/-- The second memory layer. -/
def lin1 (W1 : Mat1) (h : Hid) : Rows := fun s d => ∑ j, h s j * W1 j d
/-- The regularised mean square of a position's channels. -/
def msq (p : Rows) : Gate := fun s => Ideal.div (∑ d, p s d * p s d) (w32 0x42800000#32) + w32 0x322BCC77#32
/-- The root mean square. -/
def rms (p : Rows) : Gate := fun s => Ideal.sqrt (msq p s)
/-- The normalised channels. -/
def nrm (p : Rows) : Rows := fun s d => Ideal.div (p s d) (rms p s)
/-- The memory's second layer output on an input. -/
def out1 (W0 : Mat0) (W1 : Mat1) (x : Rows) : Rows := lin1 W1 fun s j => gelu (lin0 W0 x s j)
/-- The gradient at the prediction, `n` being the normalised output. -/
def dpred (n k v : Rows) (th : Gate) : Rows := fun s d => w32 0x40000000#32 * th s * (n s d + k s d - v s d)
/-- The gradient through the normalisation of `p`, `g` being the gradient at its output. -/
def dnorm (p g : Rows) : Rows := fun s d =>
  Ideal.div (g s d - Ideal.div (nrm p s d * ∑ e, g s e * nrm p s e) (w32 0x42800000#32)) (rms p s)
/-- The second layer's weight gradient. -/
def grad1 (h : Hid) (g : Rows) : Mat1 := fun j d => ∑ s, h s j * g s d
/-- The derivative of the exact GELU. -/
def geluGrad (p : EReal) : EReal :=
  w32 0x3F000000#32 * opc p + p * (Ideal.exp (w32 0xBF000000#32 * p * p) * w32 0x3ECC422A#32)
/-- The gradient carried back through the second layer. -/
def back (W1 : Mat1) (g : Rows) : Hid := fun s j => ∑ d, g s d * W1 j d
/-- The first layer's weight gradient. -/
def grad0 (k : Rows) (g : Hid) : Mat0 := fun i j => ∑ s, k s i * g s j
/-- The clipping factor at a global sum of squares. -/
def clip (t : EReal) : EReal := min (Ideal.div (w32 0x41200000#32) (Ideal.sqrt t + w32 0x358637BD#32)) (w32 0x3F800000#32)
/-- One minus the mean forgetting gate. -/
def keep (al : Gate) : EReal := w32 0x3F800000#32 - Ideal.div (∑ s, al s) (w32 0x45000000#32)
/-- The mean momentum gate. -/
def mom (et : Gate) : EReal := Ideal.div (∑ s, et s) (w32 0x45000000#32)
/-- A weight after the update from zero momentum, kept as it was where the update is not finite. -/
def upd (kp em cf w g : EReal) : EReal :=
  let x := kp * w + (em * w32 0x00000000#32 - g * cf)
  if max x (-x) < w32 0x7F800000#32 then x else w
/-- A number, zero where it is not finite. -/
def fin (x : EReal) : EReal := if x = ⊤ ∨ x = ⊥ then 0 else x

section
variable (k v : Rows) (th al et : Gate) (W0 : Mat0) (W1 : Mat1)
/-- The gradient at the second layer's output. -/
def dh : Rows := dnorm (out1 W0 W1 k) (dpred (nrm (out1 W0 W1 k)) k v th)
/-- The second layer's weight gradient. -/
def g1 : Mat1 := grad1 (fun s j => gelu (lin0 W0 k s j)) (dh k v th W0 W1)
/-- The first layer's weight gradient. -/
def g0 : Mat0 := grad0 k fun s j => back W1 (dh k v th W0 W1) s j * geluGrad (lin0 W0 k s j)
/-- The clipping factor of the two gradients. -/
def cf : EReal :=
  clip ((∑ i, ∑ j, g0 k v th W0 W1 i j * g0 k v th W0 W1 i j) + ∑ j, ∑ i, g1 k v th W0 W1 j i * g1 k v th W0 W1 j i)
/-- The first layer after the update. -/
def nw0 : Mat0 := fun i j => upd (keep al) (mom et) (cf k v th W0 W1) (W0 i j) (g0 k v th W0 W1 i j)
/-- The second layer after the update. -/
def nw1 : Mat1 := fun j i => upd (keep al) (mom et) (cf k v th W0 W1) (W1 j i) (g1 k v th W0 W1 j i)
/-- The updated memory read at the queries. -/
def rd (q : Rows) : Rows := fun s d => fin (out1 (nw0 k v th al et W0 W1) (nw1 k v th al et W0 W1) q s d)
/-- One head's output. -/
def head (q : Rows) : Rows := fun s d => nrm (rd k v th al et W0 W1 q) s d + q s d
end

/-- A row of the input divided by its regularised root mean square. -/
def xn (x : Fin 1024 → EReal) : Fin 1024 → EReal := fun c =>
  x c * Ideal.rsqrt (Ideal.div (∑ c, x c * x c) (w32 0x44800000#32) + w32 0x358637BD#32)
/-- A row times a column. -/
def dot (x w : Fin 1024 → EReal) : EReal := ∑ c, x c * w c
/-- A head's channels at one position divided by their regularised root mean square. -/
def hn (p : Fin 64 → EReal) : Fin 64 → EReal := fun d =>
  p d * Ideal.rsqrt (Ideal.div (∑ d, p d * p d) (w32 0x42800000#32) + w32 0x358637BD#32)
/-- The logistic function. -/
def sig (x : EReal) : EReal := Ideal.div (w32 0x3F800000#32) (w32 0x3F800000#32 + Ideal.exp (-x))

/-- The input: batch, position, channel. -/
abbrev Input := Fin 8 → Fin 2048 → Fin 1024 → EReal
/-- The column of channel `e` of head `h` among the 1024 columns of a projection. -/
def chan (h : Fin 16) (e : Fin 64) : Fin 1024 := ⟨h.val * 64 + e.val, by omega⟩
/-- A head's projection of the input. -/
def proj (X : Input) (W : Fin 1024 → Fin 1024 → EReal) (b : Fin 8) (h : Fin 16) : Rows := fun s d =>
  dot (xn (X b s)) fun c => W c (chan h d)
/-- A head's projection of the input, normalised. -/
def nproj (X : Input) (W : Fin 1024 → Fin 1024 → EReal) (b : Fin 8) (h : Fin 16) : Rows := fun s => hn (proj X W b h s)
/-- A head's gate. -/
def gate (X : Input) (W : Fin 1024 → Fin 16 → EReal) (bias : Fin 16 → EReal) (b : Fin 8) (h : Fin 16) : Gate := fun s =>
  sig (dot (xn (X b s)) (fun c => W c h) + bias h)

end Cert.Proof.Spec
-- ==== Proof.Algebra.lean ====
/- The laws of the extended reals by which the kernel's rearrangements are the reference's formulas: the values of the
   constants, twos and halves moved through sums and roots, and the finiteness guards. -/
module

public import proofs.«01_k».proof.Proof.Spec

@[expose] public section

noncomputable section

namespace Cert.Proof.Algebra

open Idealize.ShloMosaic Cert.Proof.Spec
open scoped BigOperators

/-- The word of one. -/
theorem w32_one : w32 0x3F800000#32 = 1 := by
  simp [w32, Ideal.ofBits, Ideal.ieee, -EReal.coe_mul]; norm_num
/-- The word of a half. -/
theorem w32_half : w32 0x3F000000#32 = ((1 / 2 : ℝ) : EReal) := by
  simp [w32, Ideal.ofBits, Ideal.ieee, -EReal.coe_mul]; norm_num
/-- The word of two. -/
theorem w32_two : w32 0x40000000#32 = ((2 : ℝ) : EReal) := by
  simp [w32, Ideal.ofBits, Ideal.ieee, -EReal.coe_mul]; norm_num
/-- The word of sixty-four. -/
theorem w32_64 : w32 0x42800000#32 = ((64 : ℝ) : EReal) := by
  simp [w32, Ideal.ofBits, Ideal.ieee, -EReal.coe_mul]; norm_num
/-- The word of a sixty-fourth. -/
theorem w32_inv64 : w32 0x3C800000#32 = ((1 / 64 : ℝ) : EReal) := by
  simp [w32, Ideal.ofBits, Ideal.ieee, -EReal.coe_mul]; norm_num
/-- The word of infinity. -/
theorem w32_top : w32 0x7F800000#32 = ⊤ := by
  simp [w32, Ideal.ofBits, Ideal.ieee]
/-- The word of negative infinity. -/
theorem w32_bot : w32 0xFF800000#32 = ⊥ := by
  simp [w32, Ideal.ofBits, Ideal.ieee]
/-- The word of zero. -/
theorem w32_zero : w32 0x00000000#32 = 0 := by
  simp [w32, Ideal.ofBits, Ideal.ieee]
/-- The regulariser of the memory's normalisation. -/
theorem w32_eps : ∃ e : ℝ, 0 < e ∧ w32 0x322BCC77#32 = (e : EReal) ∧ w32 0x332BCC77#32 = ((4 * e : ℝ) : EReal) := by
  refine ⟨11258999 * 2 ^ (-50 : ℤ), by norm_num, ?_, ?_⟩
  · simp [w32, Ideal.ofBits, Ideal.ieee, -EReal.coe_mul]
  · simp [w32, Ideal.ofBits, Ideal.ieee, -EReal.coe_mul]; norm_num
/-- The kernel's learning rate is twice the reference's. -/
theorem w32_rate : w32 0x3CA3D70A#32 = w32 0x40000000#32 * w32 0x3C23D70A#32 := by
  rw [w32_two]
  simp [w32, Ideal.ofBits, Ideal.ieee, -EReal.coe_mul]; rw [← EReal.coe_mul]; norm_num
/-- The kernel's Gaussian factor is twice the reference's. -/
theorem w32_gauss : w32 0x3F4C422A#32 = w32 0x40000000#32 * w32 0x3ECC422A#32 := by
  rw [w32_two]
  simp [w32, Ideal.ofBits, Ideal.ieee, -EReal.coe_mul]; rw [← EReal.coe_mul]; norm_num

/-- A nonnegative real factor moves over a sum of two. -/
theorem coe_mul_add {a : ℝ} (ha : 0 ≤ a) (x y : EReal) : (a : EReal) * (x + y) = a * x + a * y :=
  EReal.left_distrib_of_nonneg_of_ne_top (by exact_mod_cast ha) (EReal.coe_ne_top a) x y

/-- A nonnegative real factor moves over a finite sum. -/
theorem coe_mul_sum {ι : Type} [Fintype ι] {a : ℝ} (ha : 0 ≤ a) (f : ι → EReal) :
    (a : EReal) * ∑ i, f i = ∑ i, (a : EReal) * f i := by
  classical
  induction (Finset.univ : Finset ι) using Finset.induction_on with
  | empty => simp
  | insert i s hi ih => rw [Finset.sum_insert hi, Finset.sum_insert hi, coe_mul_add ha, ih]

/-- A half of twice a number is the number. -/
theorem half_two (x : EReal) : ((1 / 2 : ℝ) : EReal) * (((2 : ℝ) : EReal) * x) = x := by
  rw [← mul_assoc, ← EReal.coe_mul]; norm_num

/-- Twice a half of a number is the number. -/
theorem two_half (x : EReal) : ((2 : ℝ) : EReal) * (((1 / 2 : ℝ) : EReal) * x) = x := by
  rw [← mul_assoc, ← EReal.coe_mul]; norm_num

/-- A square is not negative. -/
theorem sq_nonneg' (x : EReal) : 0 ≤ x * x := by
  induction x with
  | bot => simp
  | top => simp
  | coe r => rw [← EReal.coe_mul]; exact_mod_cast mul_self_nonneg r

/-- The regularised mean square is positive. -/
theorem msq_pos (p : Rows) (s : Fin 2048) : 0 < msq p s := by
  obtain ⟨e, he, h1, -⟩ := w32_eps
  unfold msq
  rw [h1, w32_64, Ideal.div_coe (by norm_num)]
  have h : (0 : EReal) ≤ (∑ d, p s d * p s d) * ((1 / 64 : ℝ) : EReal) :=
    mul_nonneg (Finset.sum_nonneg fun d _ => sq_nonneg' _) (by exact_mod_cast (by norm_num : (0:ℝ) ≤ 1 / 64))
  calc (0 : EReal) < (e : EReal) := by exact_mod_cast he
    _ = 0 + e := (zero_add _).symm
    _ ≤ _ := add_le_add h le_rfl

/-- Dividing by the root of a positive number is multiplying by its reciprocal root. -/
theorem div_sqrt {y : EReal} (hy : 0 < y) (x : EReal) : Ideal.div x (Ideal.sqrt y) = x * Ideal.rsqrt y := by
  induction y with
  | bot => simp at hy
  | top => simp [Ideal.div]
  | coe r =>
    have hr : 0 < r := by exact_mod_cast hy
    have hs : Real.sqrt r ≠ 0 := (Real.sqrt_pos.mpr hr).ne'
    rw [Ideal.sqrt_coe, if_neg hr.not_gt, Ideal.div_coe hs, Ideal.rsqrt_coe, if_neg hr.not_gt, if_neg hr.ne', one_div]

/-- The reciprocal root of four times a positive number is half of its reciprocal root. -/
theorem rsqrt_four {y : EReal} (hy : 0 < y) :
    Ideal.rsqrt (((4 : ℝ) : EReal) * y) = ((1 / 2 : ℝ) : EReal) * Ideal.rsqrt y := by
  induction y with
  | bot => simp at hy
  | top => rw [EReal.coe_mul_top_of_pos (by norm_num)]; simp
  | coe r =>
    have hr : 0 < r := by exact_mod_cast hy
    have h4 : 0 < 4 * r := by positivity
    rw [← EReal.coe_mul, Ideal.rsqrt_coe, if_neg h4.not_gt, if_neg h4.ne', Ideal.rsqrt_coe, if_neg hr.not_gt, if_neg hr.ne',
      ← EReal.coe_mul]
    congr 1
    rw [Real.sqrt_mul (by norm_num), show (4 : ℝ) = 2 ^ 2 by norm_num, Real.sqrt_sq (by norm_num), mul_inv]; norm_num

/-- The kernel's mean square of twice an array is four times the reference's. -/
theorem msq_two (p : Rows) (s : Fin 2048) :
    Ideal.div (∑ d, ((2 : ℝ) : EReal) * p s d * (((2 : ℝ) : EReal) * p s d)) (w32 0x42800000#32) + w32 0x332BCC77#32
      = ((4 : ℝ) : EReal) * msq p s := by
  obtain ⟨e, he, h1, h2⟩ := w32_eps
  unfold msq
  rw [h1, h2, w32_64, Ideal.div_coe (by norm_num), Ideal.div_coe (by norm_num), coe_mul_add (by norm_num), ← EReal.coe_mul,
    ← mul_assoc, coe_mul_sum (by norm_num)]
  congr 2
  refine Finset.sum_congr rfl fun d _ => ?_
  rw [mul_mul_mul_comm, ← EReal.coe_mul]; norm_num

/-- The kernel's reciprocal root mean square of twice an array is half of the reference's. -/
theorem inv_two (p : Rows) (s : Fin 2048) :
    Ideal.rsqrt (Ideal.div (∑ d, ((2 : ℝ) : EReal) * p s d * (((2 : ℝ) : EReal) * p s d)) (w32 0x42800000#32) + w32 0x332BCC77#32)
      = ((1 / 2 : ℝ) : EReal) * Ideal.rsqrt (msq p s) := by
  rw [msq_two, rsqrt_four (msq_pos p s)]

/-- Normalising by the reciprocal root is dividing by the root. -/
theorem nrm_eq (p : Rows) (s : Fin 2048) (d : Fin 64) : nrm p s d = p s d * Ideal.rsqrt (msq p s) :=
  div_sqrt (msq_pos p s) _

/-- The gradient through the normalisation with reciprocals for divisions. -/
theorem dnorm_eq (p g : Rows) (s : Fin 2048) (d : Fin 64) :
    dnorm p g s d = (g s d - nrm p s d * ((∑ e, g s e * nrm p s e) * ((1 / 64 : ℝ) : EReal))) * Ideal.rsqrt (msq p s) := by
  unfold dnorm rms
  rw [div_sqrt (msq_pos p s), w32_64, Ideal.div_coe (by norm_num), mul_assoc (nrm p s d)]

/-- Twice the GELU is the input times one plus the error function. -/
theorem gelu_two (p : EReal) : p * opc p = ((2 : ℝ) : EReal) * gelu p := by
  unfold gelu; rw [w32_half, mul_assoc, two_half]

/-- Twice the GELU's derivative. -/
theorem geluGrad_two (p : EReal) :
    opc p + p * (Ideal.exp (w32 0xBF000000#32 * p * p) * w32 0x3F4C422A#32) = ((2 : ℝ) : EReal) * geluGrad p := by
  unfold geluGrad
  rw [coe_mul_add (by norm_num), w32_half, two_half, w32_gauss, w32_two]
  congr 1
  simp only [mul_comm, mul_left_comm, mul_assoc]

/-- The update from zero momentum, written without the momentum. -/
theorem upd_eq (kp em cf w g : EReal) :
    upd kp em cf w g = if kp * w - cf * g = ⊤ ∨ kp * w - cf * g = ⊥ then w else kp * w - cf * g := by
  have hx : kp * w + (em * w32 0x00000000#32 - g * cf) = kp * w - cf * g := by
    rw [w32_zero, mul_zero, zero_sub, mul_comm g, sub_eq_add_neg]
  unfold upd
  rw [hx, w32_top]
  generalize kp * w - cf * g = x
  induction x with
  | bot => simp
  | top => simp
  | coe r =>
    have h : max (r : EReal) (-(r : EReal)) < ⊤ := max_lt (EReal.coe_lt_top r) (by rw [← EReal.coe_neg]; exact EReal.coe_lt_top _)
    simp [h]

/-- A number replaced by zero where it is not itself, positive infinity or negative infinity, is `fin`. -/
theorem fin_eq (x : EReal) : (if x = ⊤ then (0 : EReal) else if x = ⊥ then 0 else x) = fin x := by
  unfold fin; by_cases h : x = ⊤ <;> by_cases h' : x = ⊥ <;> simp [h, h']

/-- Twice a number, guarded, is twice the guarded number. -/
theorem fin_two (x : EReal) :
    (if ((2 : ℝ) : EReal) * x = ⊤ ∨ ((2 : ℝ) : EReal) * x = ⊥ then (0 : EReal) else ((2 : ℝ) : EReal) * x) = ((2 : ℝ) : EReal) * fin x := by
  induction x with
  | bot => rw [EReal.coe_mul_bot_of_pos (by norm_num)]; simp [fin]
  | top => rw [EReal.coe_mul_top_of_pos (by norm_num)]; simp [fin]
  | coe r =>
    rw [← EReal.coe_mul, if_neg (not_or.mpr ⟨EReal.coe_ne_top _, EReal.coe_ne_bot _⟩), fin,
      if_neg (not_or.mpr ⟨EReal.coe_ne_top _, EReal.coe_ne_bot _⟩), EReal.coe_mul]

end Cert.Proof.Algebra
-- ==== Proof.Ops.lean ====
/- Single vector operations read at an index on the extended reals: a product's sum over its contracted axis, a column's
   sum, and a row or a single number spread over a matrix. -/
module

public import Idealize.ShloMosaic.Lib.Pipeline.Value
public import Idealize.ShloMosaic.Lib.ValueIdx
public import Idealize.ShloMosaic.PureOps.Ideal.Laws

@[expose] public section

noncomputable section

namespace Cert.Proof.Ops

open Idealize.ShloMosaic Idealize.ShloMosaic.ValueIdx
open scoped BigOperators

/-- A matrix product into zero, read at an index, is the sum over the one contracted coordinate of the factors named. -/
theorem product {sl sr so : Shape} {φ₁ φ₂ : FTy} (d : DotDims sl sr so) (n : Nat) (hr : d.contr.rank = 1)
    (hs : d.contr.size ⟨0, by omega⟩ = n) (lhs : FVec Ideal sl φ₁) (rhs : FVec Ideal sr φ₂) (j : so.Idx) (L R : Fin n → EReal)
    (hl : ∀ k, lhs (d.lhsIdx j ((contrEquiv1 d n hr hs).symm k)) = L k)
    (hR : ∀ k, rhs (d.rhsIdx j ((contrEquiv1 d n hr hs).symm k)) = R k) :
    matmul d none lhs rhs (constant so .f32 0x00000000#32) j = ∑ k, L k * R k := by
  refine (Ideal.matmul_constant_zero_apply d none lhs rhs j).trans ?_
  rw [← (contrEquiv1 d n hr hs).symm.sum_comp]
  exact Finset.sum_congr rfl fun k _ => by rw [hl k, hR k]

/-- The sums of a matrix's columns, kept as a row, read at a column. -/
theorem colSum {m n : Nat} (x : FVec Ideal ⟨2, ![m, n]⟩ .f32) (h : Shape.Reduces ⟨2, ![m, n]⟩ [0] ⟨1, ![n]⟩)
    (hc : Shape.ShapeCasts ⟨1, ![n]⟩ ⟨2, ![1, n]⟩) (hφ : FKind.Formats .f32) (hacc) (s : Fin n) :
    shapeCast ⟨2, ![1, n]⟩ (multiReduction .add [0] ⟨1, ![n]⟩ x 0x00000000#32 h hφ hacc) hc (ix2 0 s) = ∑ d, x (ix2 d s) := by
  rw [shapeCast_apply _ hc (ix2 0 s) (ix1 s) (by
    rw [Shape.rowMajor_val_one, Shape.rowMajor_val_two]
    show s.val = 0 * n + s.val
    omega), Ideal.multiReduction_add_single]
  refine Finset.sum_congr rfl fun d _ => congrArg x (funext fun a => ?_)
  fin_cases a <;> rfl

/-- The sum of a row, kept as one number. -/
theorem rowSum {n : Nat} (x : FVec Ideal ⟨2, ![1, n]⟩ .f32) (h : Shape.Reduces ⟨2, ![1, n]⟩ [1] ⟨1, ![1]⟩)
    (hc : Shape.ShapeCasts ⟨1, ![1]⟩ ⟨2, ![1, 1]⟩) (hφ : FKind.Formats .f32) (hacc) :
    shapeCast ⟨2, ![1, 1]⟩ (multiReduction .add [1] ⟨1, ![1]⟩ x 0x00000000#32 h hφ hacc) hc (ix2 0 0) = ∑ s, x (ix2 0 s) := by
  rw [shapeCast_apply _ hc (ix2 0 0) (ix1 0) (by rfl), Ideal.multiReduction_add_single]
  refine Finset.sum_congr rfl fun d _ => congrArg x (funext fun a => ?_)
  fin_cases a <;> rfl

/-- A row spread over a matrix's rows, read at an index. -/
theorem spreadRow {m n : Nat} (hn : n ≠ 1) (x : FVec Ideal ⟨2, ![1, n]⟩ .f32) (h : Shape.Broadcasts ⟨2, ![1, n]⟩ ⟨2, ![m, n]⟩)
    (d : Fin m) (s : Fin n) : broadcastTo ⟨2, ![m, n]⟩ x h (ix2 d s) = x (ix2 0 s) := by
  refine broadcastTo_apply x h _ _ fun a => ?_
  fin_cases a
  · rfl
  · exact (if_neg hn).symm

/-- One number spread over a matrix, read at an index. -/
theorem spreadOne {m n : Nat} (x : FVec Ideal ⟨2, ![1, 1]⟩ .f32) (h : Shape.Broadcasts ⟨2, ![1, 1]⟩ ⟨2, ![m, n]⟩)
    (d : Fin m) (s : Fin n) : broadcastTo ⟨2, ![m, n]⟩ x h (ix2 d s) = x (ix2 0 0) := by
  refine broadcastTo_apply x h _ _ fun a => ?_
  fin_cases a <;> rfl

end Cert.Proof.Ops
-- ==== Proof.ProjRead.lean ====
/- The blocks the first kernel writes, read at an index on the extended reals: normalised keys and queries, values, and
   the two gates of one block of positions. -/
module

public import proofs.«01_k».proof.Proof.Gen.KernelIdeal.Frame
public import proofs.«01_k».proof.Proof.Algebra
public import proofs.«01_k».proof.Proof.Ops

@[expose] public section

noncomputable section

namespace Cert.Proof.ProjRead

open Idealize.ShloMosaic Idealize.ShloMosaic.ValueIdx Cert.KernelIdeal Cert.KernelIdeal.Gen
open Cert.Proof
open Cert.Proof.Spec (w32)
open scoped BigOperators

section
variable (x : FVec Ideal S1x512x1024 .f32)

/-- Row `s` of the input block. -/
abbrev row (s : Fin 512) : Fin 1024 → EReal := fun c => x (ix3 0 s c)

/-- The input block without its leading unit axis. -/
theorem flat_at (s : Fin 512) (c : Fin 1024) : shapeCast S512x1024 x shapeCasts_S1x512x1024_S512x1024 (ix2 s c) = row x s c :=
  (shapeCast_dropUnit_apply _ x _ _).trans (congrArg x (funext fun a => by fin_cases a <;> rfl))

/-- The sum of the squares of a row of the input block. -/
theorem sq_at (h : S512x1024.Reduces [1] S512) (hc : S512.ShapeCasts S512x1) (hφ : FKind.Formats .f32) (hacc) (s : Fin 512) (y : FVec Ideal S512x1024 .f32) :
    shapeCast S512x1 (multiReduction .add [1] S512 y 0x00000000#32 h hφ hacc) hc (ix2 s 0) = ∑ c, y (ix2 s c) := by
  rw [shapeCast_apply _ hc (ix2 s 0) (ix1 s) (by
    rw [Shape.rowMajor_val_one, Shape.rowMajor_val_two]
    show s.val = s.val * 1 + 0
    omega), Ideal.multiReduction_add_single]
  refine Finset.sum_congr rfl fun d _ => congrArg y (funext fun a => ?_)
  fin_cases a <;> rfl

/-- A column spread along the rows. -/
theorem spreadCol (y : FVec Ideal S512x1 .f32) (h : S512x1.Broadcasts S512x1024) (s : Fin 512) (c : Fin 1024) :
    broadcastTo S512x1024 y h (ix2 s c) = y (ix2 s 0) := by
  refine broadcastTo_apply y h _ _ fun a => ?_
  fin_cases a <;> rfl

/-- The rows of the input block, normalised. -/
theorem xn_at (s : Fin 512) (c : Fin 1024) : k0_pay1 (F := Ideal) x (ix2 s c) = Spec.xn (row x s) c := by
  unfold k0_pay1
  refine congrArg₂ (· * ·) (flat_at x s c) ((spreadCol _ _ s c).trans ?_)
  refine congrArg (fun z => Ideal.rsqrt (Ideal.div z (w32 0x44800000#32) + w32 0x358637BD#32)) ((sq_at _ _ _ _ s _).trans ?_)
  exact Finset.sum_congr rfl fun c _ => congrArg₂ (· * ·) (flat_at x s c) (flat_at x s c)

/-- A projection of the block, channels first. -/
theorem proj_at (w : FVec Ideal S1024x1024 .f32) (e : Fin 1024) (s : Fin 512) :
    k0_pay2 (F := Ideal) x w (ix2 e s) = Spec.dot (Spec.xn (row x s)) fun c => w (ix2 c e) := by
  unfold k0_pay2
  refine (transpose_apply _ _ _ _ (ix2 s e) fun b => by fin_cases b <;> rfl).trans ?_
  refine Ops.product _ 1024 rfl rfl _ w (ix2 s e) (Spec.xn (row x s)) (fun c => w (ix2 c e)) (fun c => ?_) (fun c => ?_)
  · exact (congrArg (k0_pay1 (F := Ideal) x) (funext fun a => by fin_cases a <;> rfl)).trans (xn_at x s c)
  · exact congrArg w (funext fun a => by fin_cases a <;> rfl)

/-- A row spread over the gates' rows. -/
theorem spreadBias (y : FVec Ideal S1x32 .f32) (h : S1x32.Broadcasts S512x32) (s : Fin 512) (r : Fin 32) :
    broadcastTo S512x32 y h (ix2 s r) = y (ix2 0 r) := by
  refine broadcastTo_apply y h _ _ fun a => ?_
  fin_cases a <;> rfl

/-- The logistic of a sum at an index. -/
theorem sig_add (a b : FVec Ideal S512x32 .f32) (i : S512x32.Idx) : logistic (addf a b) i = Spec.sig (a i + b i) := by
  unfold Spec.sig
  rw [Algebra.w32_one]
  rfl

/-- The 32 gates of the block, gates first. -/
theorem gates_at (w : FVec Ideal S1024x32 .f32) (b : FVec Ideal S1x32 .f32) (r : Fin 32) (s : Fin 512) :
    k0_pay4 (F := Ideal) x w b (ix2 r s) = Spec.sig (Spec.dot (Spec.xn (row x s)) (fun c => w (ix2 c r)) + b (ix2 0 r)) := by
  unfold k0_pay4
  refine (transpose_apply _ _ _ _ (ix2 s r) fun b => by fin_cases b <;> rfl).trans ?_
  refine (sig_add _ _ (ix2 s r)).trans (congrArg Spec.sig (congrArg₂ (· + ·) ?_ ?_))
  · refine Ops.product _ 1024 rfl rfl _ _ (ix2 s r) (Spec.xn (row x s)) (fun c => w (ix2 c r)) (fun c => ?_) (fun c => ?_)
    · exact (congrArg (k0_pay1 (F := Ideal) x) (funext fun a => by fin_cases a <;> rfl)).trans (xn_at x s c)
    · exact (shapeCast_apply w _ _ _ rfl).trans (congrArg w (funext fun a => by fin_cases a <;> rfl))
  · exact (spreadBias _ _ s r).trans (shapeCast_apply b _ _ _ rfl)
end

section
variable (p : FVec Ideal S1024x512 .f32)

/-- The channels of a block by head. -/
theorem split_at (h : Fin 16) (e : Fin 64) (s : Fin 512) :
    shapeCast S16x64x512 p shapeCasts_S1024x512_S16x64x512 (ix3 h e s) = p (ix2 (Spec.chan h e) s) :=
  shapeCast_apply p _ _ _ (by
    rw [Shape.rowMajor_val_three, Shape.rowMajor_val_two]; rfl)

/-- The heads' channels of a block back in one axis. -/
theorem join_at (y : FVec Ideal S16x64x512 .f32) (h : Fin 16) (e : Fin 64) (s : Fin 512) :
    shapeCast S1024x512 y shapeCasts_S16x64x512_S1024x512 (ix2 (Spec.chan h e) s) = y (ix3 h e s) :=
  shapeCast_apply y _ _ _ (by
    rw [Shape.rowMajor_val_three, Shape.rowMajor_val_two]; rfl)

/-- The sum over a head's channels, kept with a unit axis. -/
theorem headSum (y : FVec Ideal S16x64x512 .f32) (hr : S16x64x512.Reduces [1] S16x512) (hc : S16x512.ShapeCasts S16x1x512)
    (hφ : FKind.Formats .f32) (hacc) (h : Fin 16) (s : Fin 512) :
    shapeCast S16x1x512 (multiReduction .add [1] S16x512 y 0x00000000#32 hr hφ hacc) hc (ix3 h 0 s) = ∑ e, y (ix3 h e s) := by
  rw [shapeCast_apply _ hc (ix3 h 0 s) (ix2 h s) (by
    rw [Shape.rowMajor_val_three, Shape.rowMajor_val_two]
    show h.val * 512 + s.val = (h.val * 1 + 0) * 512 + s.val
    omega), Ideal.multiReduction_add_single]
  refine Finset.sum_congr rfl fun d _ => congrArg y (funext fun a => ?_)
  fin_cases a <;> rfl

/-- A number per head and position spread over the head's channels. -/
theorem spreadHead (y : FVec Ideal S16x1x512 .f32) (hb : S16x1x512.Broadcasts S16x64x512) (h : Fin 16) (e : Fin 64) (s : Fin 512) :
    broadcastTo S16x64x512 y hb (ix3 h e s) = y (ix3 h 0 s) := by
  refine broadcastTo_apply y hb _ _ fun a => ?_
  fin_cases a <;> rfl

/-- The block with each head's channels normalised. -/
theorem hn_at (h : Fin 16) (e : Fin 64) (s : Fin 512) :
    k0_pay8 (F := Ideal) p (ix3 0 (Spec.chan h e) s) = Spec.hn (fun e => p (ix2 (Spec.chan h e) s)) e := by
  unfold k0_pay8
  refine (shapeCast_addUnit_apply _ _ _ _).trans ?_
  refine Eq.trans (congrArg _ (funext fun a => by fin_cases a <;> rfl)) ((join_at _ h e s).trans ?_)
  refine congrArg₂ (· * ·) (split_at p h e s) ((spreadHead _ _ h e s).trans ?_)
  refine congrArg (fun z => Ideal.rsqrt (Ideal.div z (w32 0x42800000#32) + w32 0x358637BD#32)) ((headSum _ _ _ _ _ h s).trans ?_)
  exact Finset.sum_congr rfl fun e _ => congrArg₂ (· * ·) (split_at p h e s) (split_at p h e s)
end

/-- The offsets of a whole block are zero. -/
theorem off3 : (![0, 0, 0] : Fin 3 → Nat) = fun _ => 0 := funext fun a => by fin_cases a <;> rfl
/-- The offsets of a whole block are zero. -/
theorem off2 : (![0, 0] : Fin 2 → Nat) = fun _ => 0 := funext fun a => by fin_cases a <;> rfl

section
variable (x0 : FVec Ideal S1x512x1024 .f32) (x1 x2 x3 : FVec Ideal S1024x1024 .f32) (x4 : FVec Ideal S1024x32 .f32) (x5 : FVec Ideal S1x32 .f32)

/-- The block of keys: each head's channels normalised. -/
theorem keys_at (h : Fin 16) (e : Fin 64) (s : Fin 512) :
    out0_6 (F := Ideal) x0 x1 x2 x3 x4 x5 (ix3 0 (Spec.chan h e) s)
      = Spec.hn (fun e => Spec.dot (Spec.xn (row x0 s)) fun c => x1 (ix2 c (Spec.chan h e))) e := by
  unfold out0_6
  rw [View.canon_unit_zero off3, View.ld_unit_zero off3, View.ld_unit_zero off2]
  have hk : k0_pay7 (F := Ideal) (k0_pay5 x0 x1) (k0_pay6 x0 x1) = k0_pay8 (F := Ideal) (k0_pay2 x0 x1) := rfl
  refine (congrFun hk _).trans ((hn_at _ h e s).trans ?_)
  exact congrArg (fun p => Spec.hn p e) (funext fun e => proj_at x0 x1 _ s)

/-- The block of values. -/
theorem values_at (e : Fin 1024) (s : Fin 512) :
    out0_7 (F := Ideal) x0 x1 x2 x3 x4 x5 (ix3 0 e s) = Spec.dot (Spec.xn (row x0 s)) fun c => x2 (ix2 c e) := by
  unfold out0_7
  rw [View.canon_unit_zero off3, View.ld_unit_zero off3, View.ld_unit_zero off2]
  unfold k0_pay9
  refine (shapeCast_addUnit_apply _ _ _ _).trans ?_
  exact Eq.trans (congrArg (k0_pay2 (F := Ideal) x0 x2) (funext fun a => by fin_cases a <;> rfl)) (proj_at x0 x2 e s)

/-- The block of queries: each head's channels normalised. -/
theorem queries_at (h : Fin 16) (e : Fin 64) (s : Fin 512) :
    out0_8 (F := Ideal) x0 x1 x2 x3 x4 x5 (ix3 0 (Spec.chan h e) s)
      = Spec.hn (fun e => Spec.dot (Spec.xn (row x0 s)) fun c => x3 (ix2 c (Spec.chan h e))) e := by
  unfold out0_8
  rw [View.canon_unit_zero off3, View.ld_unit_zero off3, View.ld_unit_zero off2]
  refine (hn_at _ h e s).trans ?_
  exact congrArg (fun p => Spec.hn p e) (funext fun e => proj_at x0 x3 _ s)

/-- The first gates of the block: columns 0 to 15. -/
theorem alphas_at (h : Fin 16) (s : Fin 512) (r : Fin 32) (hr : r.val = h.val) :
    out0_9 (F := Ideal) x0 x1 x2 x3 x4 x5 (ix3 0 h s)
      = Spec.sig (Spec.dot (Spec.xn (row x0 s)) (fun c => x4 (ix2 c r)) + x5 (ix2 0 r)) := by
  unfold out0_9 k0_pay12
  rw [View.canon_unit_zero off3, View.ld_unit_zero off3, View.ld_unit_zero off2, View.ld_unit_zero off2]
  refine (shapeCast_addUnit_apply _ _ _ _).trans ((extractStridedSlice_apply _ _ _ _ (ix2 r s) fun a => ?_).trans (gates_at x0 x4 x5 r s))
  fin_cases a
  · show r.val = 0 + h.val; omega
  · show s.val = 0 + s.val; omega

/-- The second gates of the block: columns 16 to 31. -/
theorem thetas_at (h : Fin 16) (s : Fin 512) (r : Fin 32) (hr : r.val = 16 + h.val) :
    out0_10 (F := Ideal) x0 x1 x2 x3 x4 x5 (ix3 0 h s)
      = Spec.sig (Spec.dot (Spec.xn (row x0 s)) (fun c => x4 (ix2 c r)) + x5 (ix2 0 r)) := by
  unfold out0_10 k0_pay12
  rw [View.canon_unit_zero off3, View.ld_unit_zero off3, View.ld_unit_zero off2, View.ld_unit_zero off2]
  refine (shapeCast_addUnit_apply _ _ _ _).trans ((extractStridedSlice_apply _ _ _ _ (ix2 r s) fun a => ?_).trans (gates_at x0 x4 x5 r s))
  fin_cases a
  · show r.val = 16 + h.val; omega
  · show s.val = 0 + s.val; omega
end

end Cert.Proof.ProjRead
-- ==== Proof.Arrays0.lean ====
/- The arrays the first kernel leaves: normalised keys and queries, values and gates, channels by positions, at every
   batch and position, as functions of the arrays it finds. -/
module

public import proofs.«01_k».proof.Proof.ProjRead
public import Idealize.ShloMosaic.Lib.Pipeline.Value

@[expose] public section

noncomputable section

namespace Cert.Proof.Arrays0

open Idealize.ShloMosaic Idealize.ShloMosaic.ValueIdx Idealize.ShloMosaic.TcCoe Cert.KernelIdeal Cert.KernelIdeal.Gen
open Idealize.ShloMosaic.Pipeline (Dat Cfg Window)
open Cert.Proof

/-! ## The grid: point `t` is batch `t / 4`, positions from `512 * (t % 4)` -/

/-- The grid has 32 points. -/
theorem lt32 (t : Fin cfg0.N) : t.val < 32 := lt_of_lt_of_eq t.isLt (by decide +kernel)
/-- The batch of point `t`. -/
def bat (t : Fin cfg0.N) : Fin 8 := ⟨t.val / 4, by have := lt32 t; omega⟩
/-- Position `s` of point `t`'s block among all positions. -/
def pos (t : Fin cfg0.N) (s : Fin 512) : Fin 2048 := ⟨t.val % 4 * 512 + s.val, by omega⟩
/-- The point of batch `b` and position `q`. -/
def point (b : Fin 8) (q : Fin 2048) : Fin cfg0.N := ⟨b.val * 4 + q.val / 512, lt_of_lt_of_eq (by omega : _ < 32) (by decide +kernel)⟩
/-- The place of position `q` in its block. -/
def off (q : Fin 2048) : Fin 512 := ⟨q.val % 512, by omega⟩

theorem bat_point (b : Fin 8) (q : Fin 2048) : bat (point b q) = b := Fin.ext (by
  show (b.val * 4 + q.val / 512) / 4 = b.val; omega)
theorem pos_point (b : Fin 8) (q : Fin 2048) : pos (point b q) (off q) = q := Fin.ext (by
  show (b.val * 4 + q.val / 512) % 4 * 512 + q.val % 512 = q.val; omega)

/-- The head of a channel among the 1024. -/
def hd (e : Fin 1024) : Fin 16 := ⟨e.val / 64, by omega⟩
/-- The channel of its head. -/
def ch (e : Fin 1024) : Fin 64 := ⟨e.val % 64, by omega⟩
theorem chan_hd (e : Fin 1024) : Spec.chan (hd e) (ch e) = e := Fin.ext (by show e.val / 64 * 64 + e.val % 64 = e.val; omega)
theorem hd_chan (h : Fin 16) (d : Fin 64) : hd (Spec.chan h d) = h := Fin.ext (by show (h.val * 64 + d.val) / 64 = h.val; omega)
theorem ch_chan (h : Fin 16) (d : Fin 64) : ch (Spec.chan h d) = d := Fin.ext (by show (h.val * 64 + d.val) % 64 = d.val; omega)

/-- The block indices: the input's block is the point's batch and positions; the outputs' likewise, channels whole; the
    weights' are the whole arrays. -/
theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idxW : ∀ t : Fin cfg0.N, (∀ a, win0_1.index t a = 0) ∧ (∀ a, win0_2.index t a = 0) ∧ (∀ a, win0_3.index t a = 0)
    ∧ (∀ a, win0_4.index t a = 0) ∧ (∀ a, win0_5.index t a = 0) :=
  (by decide +kernel : ∀ t : Fin grid0.N, _)
theorem idxO : ∀ t : Fin cfg0.N, (win0_6.index t = ![t.val / 4, 0, t.val % 4]) ∧ (win0_7.index t = ![t.val / 4, 0, t.val % 4])
    ∧ (win0_8.index t = ![t.val / 4, 0, t.val % 4]) ∧ (win0_9.index t = ![t.val / 4, 0, t.val % 4]) ∧ (win0_10.index t = ![t.val / 4, 0, t.val % 4]) :=
  (by decide +kernel : ∀ t : Fin grid0.N, _)

section
variable (V : (c : Dev nD) → (b : Ref sig .tc) → Buf (Elt Ideal) ((c : Thread nD τ).loc b)) (c : Dev nD) (t : Fin cfg0.N)

/-! ## The blocks read -/

/-- The input array as a function. -/
def X (x : FVec Ideal S8x2048x1024 .f32) : Spec.Input := fun b s c => x (ix3 b s c)
/-- A weight array as a function. -/
def W {n : Nat} (w : FVec Ideal ⟨2, ![1024, n]⟩ .f32) (c : Fin 1024) (e : Fin n) : EReal := w (ix2 c e)

/-- Row `s` of point `t`'s input block is the input at its batch and position. -/
theorem row_eq (s : Fin 512) : ProjRead.row (iblk0 V c 0 t) s = X (V c main_arg0) (bat t) (pos t s) := funext fun e => by
  show V c main_arg0 (((cfg0.win 0).blk t).view.emb (ix3 0 s e)) = V c main_arg0 (ix3 (bat t) (pos t s) e)
  refine congrArg (V c main_arg0) (funext fun a => Fin.ext ?_)
  obtain ⟨h0, h1, h2⟩ := idx0 t
  match a with
  | ⟨0, _⟩ => show win0_0.index t (0 : Fin 3) * 1 + 1 * 0 = t.val / 4; omega
  | ⟨1, _⟩ => show win0_0.index t (1 : Fin 3) * 512 + 1 * s.val = t.val % 4 * 512 + s.val; omega
  | ⟨2, _⟩ => show win0_0.index t (2 : Fin 3) * 1024 + 1 * e.val = e.val; omega

/-- The key weights' block is the whole array, -/
theorem wk_eq : (iblk0 V c 1 t : FVec Ideal S1024x1024 .f32) = V c main_arg1 := funext fun y => by
  refine congrArg (V c main_arg1) (funext fun a => Fin.ext ?_)
  have h := (idxW t).1 a
  show win0_1.index t a * _ + 1 * (y a).val = (y a).val
  rw [h]; omega
/-- the value weights' too, -/
theorem wv_eq : (iblk0 V c 2 t : FVec Ideal S1024x1024 .f32) = V c main_arg2 := funext fun y => by
  refine congrArg (V c main_arg2) (funext fun a => Fin.ext ?_)
  have h := (idxW t).2.1 a
  show win0_2.index t a * _ + 1 * (y a).val = (y a).val
  rw [h]; omega
/-- the query weights' too, -/
theorem wq_eq : (iblk0 V c 3 t : FVec Ideal S1024x1024 .f32) = V c main_arg3 := funext fun y => by
  refine congrArg (V c main_arg3) (funext fun a => Fin.ext ?_)
  have h := (idxW t).2.2.1 a
  show win0_3.index t a * _ + 1 * (y a).val = (y a).val
  rw [h]; omega
/-- the gate weights' too, -/
theorem wg_eq : (iblk0 V c 4 t : FVec Ideal S1024x32 .f32) = V c main_v0 := funext fun y => by
  refine congrArg (V c main_v0) (funext fun a => Fin.ext ?_)
  have h := (idxW t).2.2.2.1 a
  show win0_4.index t a * _ + 1 * (y a).val = (y a).val
  rw [h]; omega
/-- and the gate biases'. -/
theorem bg_eq : (iblk0 V c 5 t : FVec Ideal S1x32 .f32) = V c main_v2 := funext fun y => by
  refine congrArg (V c main_v2) (funext fun a => Fin.ext ?_)
  have h := (idxW t).2.2.2.2 a
  show win0_5.index t a * _ + 1 * (y a).val = (y a).val
  rw [h]; omega

/-! ## Where an output block lies -/

/-- A place in an output block of `n` channels, given the block's index. -/
theorem place {n : Nat} {i : Fin 3 → Nat} (hi : i = ![t.val / 4, 0, t.val % 4]) (e : Fin n) (s : Fin 512) :
    i 0 * 1 + 1 * 0 = (bat t).val ∧ i 1 * n + 1 * e.val = e.val ∧ i 2 * 512 + 1 * s.val = (pos t s).val := by
  subst hi
  refine ⟨?_, ?_, ?_⟩
  · show t.val / 4 * 1 + 1 * 0 = t.val / 4; omega
  · show 0 * n + 1 * e.val = e.val; omega
  · show t.val % 4 * 512 + 1 * s.val = t.val % 4 * 512 + s.val; omega

theorem emb6 (e : Fin 1024) (s : Fin 512) : ((cfg0.win 6).blk t).view.emb (ix3 0 e s) = ix3 (bat t) e (pos t s) :=
  funext fun a => Fin.ext (match a with
    | ⟨0, _⟩ => (place t (idxO t).1 e s).1 | ⟨1, _⟩ => (place t (idxO t).1 e s).2.1 | ⟨2, _⟩ => (place t (idxO t).1 e s).2.2)
theorem emb7 (e : Fin 1024) (s : Fin 512) : ((cfg0.win 7).blk t).view.emb (ix3 0 e s) = ix3 (bat t) e (pos t s) :=
  funext fun a => Fin.ext (match a with
    | ⟨0, _⟩ => (place t (idxO t).2.1 e s).1 | ⟨1, _⟩ => (place t (idxO t).2.1 e s).2.1 | ⟨2, _⟩ => (place t (idxO t).2.1 e s).2.2)
theorem emb8 (e : Fin 1024) (s : Fin 512) : ((cfg0.win 8).blk t).view.emb (ix3 0 e s) = ix3 (bat t) e (pos t s) :=
  funext fun a => Fin.ext (match a with
    | ⟨0, _⟩ => (place t (idxO t).2.2.1 e s).1 | ⟨1, _⟩ => (place t (idxO t).2.2.1 e s).2.1 | ⟨2, _⟩ => (place t (idxO t).2.2.1 e s).2.2)
theorem emb9 (e : Fin 16) (s : Fin 512) : ((cfg0.win 9).blk t).view.emb (ix3 0 e s) = ix3 (bat t) e (pos t s) :=
  funext fun a => Fin.ext (match a with
    | ⟨0, _⟩ => (place t (idxO t).2.2.2.1 e s).1 | ⟨1, _⟩ => (place t (idxO t).2.2.2.1 e s).2.1 | ⟨2, _⟩ => (place t (idxO t).2.2.2.1 e s).2.2)
theorem emb10 (e : Fin 16) (s : Fin 512) : ((cfg0.win 10).blk t).view.emb (ix3 0 e s) = ix3 (bat t) e (pos t s) :=
  funext fun a => Fin.ext (match a with
    | ⟨0, _⟩ => (place t (idxO t).2.2.2.2 e s).1 | ⟨1, _⟩ => (place t (idxO t).2.2.2.2 e s).2.1 | ⟨2, _⟩ => (place t (idxO t).2.2.2.2 e s).2.2)
end

/-! ## The arrays -/

section
variable (V : (c : Dev nD) → (b : Ref sig .tc) → Buf (Elt Ideal) ((c : Thread nD τ).loc b)) (c : Dev nD)

/-- What holds at every channel and position of a block holds at every index. -/
theorem blockCases {n : Nat} {P : (⟨3, ![1, n, 512]⟩ : Shape).Idx → Prop} (h : ∀ (e : Fin n) (s : Fin 512), P (ix3 0 e s)) (y) : P y := by
  have hy : y = ix3 0 (y 1) (y 2) := by
    funext a
    match a with
    | ⟨0, _⟩ => exact Fin.ext (Nat.lt_one_iff.1 (y 0).isLt)
    | ⟨1, _⟩ => rfl
    | ⟨2, _⟩ => rfl
  rw [hy]; exact h _ _
/-- What holds at every batch, channel and position of an array holds at every index. -/
theorem arrayCases {n : Nat} {P : (⟨3, ![8, n, 2048]⟩ : Shape).Idx → Prop} (h : ∀ (b : Fin 8) (e : Fin n) (q : Fin 2048), P (ix3 b e q)) (i) : P i := by
  have hi : i = ix3 (i 0) (i 1) (i 2) := by
    funext a
    match a with
    | ⟨0, _⟩ => rfl
    | ⟨1, _⟩ => rfl
    | ⟨2, _⟩ => rfl
  rw [hi]; exact h _ _ _
/-- The place of an array's index in its point's block, back in the array. -/
theorem place_point {n : Nat} (b : Fin 8) (e : Fin n) (q : Fin 2048) :
    (ix3 (bat (point b q)) e (pos (point b q) (off q)) : (⟨3, ![8, n, 2048]⟩ : Shape).Idx) = ix3 b e q := by
  rw [bat_point, pos_point]

/-- The array of keys or queries of an input and its weights: each head's projection normalised. -/
def normed (x : FVec Ideal S8x2048x1024 .f32) (w : FVec Ideal S1024x1024 .f32) : S8x1024x2048.Idx → EReal :=
  fun i => Spec.nproj (X x) (W w) (i 0) (hd (i 1)) (i 2) (ch (i 1))
/-- The array of values of an input and its weights. -/
def plain (x : FVec Ideal S8x2048x1024 .f32) (w : FVec Ideal S1024x1024 .f32) : S8x1024x2048.Idx → EReal :=
  fun i => Spec.proj (X x) (W w) (i 0) (hd (i 1)) (i 2) (ch (i 1))
/-- The array of gates of an input, its weights and its biases, from column `o`. -/
def gates (o : Nat) (ho : o ≤ 16) (x : FVec Ideal S8x2048x1024 .f32) (w : FVec Ideal S1024x32 .f32) (b : FVec Ideal S1x32 .f32) : S8x16x2048.Idx → EReal :=
  fun i => Spec.gate (X x) (fun c h => w (ix2 c ⟨o + h.val, by omega⟩)) (fun h => b (ix2 0 ⟨o + h.val, by omega⟩)) (i 0) (i 1) (i 2)

/-- A row's normalised projection is the array's, at the channel of a head. -/
theorem normed_at (x : FVec Ideal S8x2048x1024 .f32) (w : FVec Ideal S1024x1024 .f32) (b : Fin 8) (h : Fin 16) (d : Fin 64) (q : Fin 2048) :
    normed x w (ix3 b (Spec.chan h d) q) = Spec.nproj (X x) (W w) b h q d :=
  congrArg₂ (fun h d => Spec.nproj (X x) (W w) b h q d) (hd_chan h d) (ch_chan h d)
/-- A projection is the array's, at the channel of a head. -/
theorem plain_at (x : FVec Ideal S8x2048x1024 .f32) (w : FVec Ideal S1024x1024 .f32) (b : Fin 8) (h : Fin 16) (d : Fin 64) (q : Fin 2048) :
    plain x w (ix3 b (Spec.chan h d) q) = Spec.proj (X x) (W w) b h q d :=
  congrArg₂ (fun h d => Spec.proj (X x) (W w) b h q d) (hd_chan h d) (ch_chan h d)

/-- What holds at every head's channel holds at every channel. -/
theorem chanCases {P : Fin 1024 → Prop} (h : ∀ g d, P (Spec.chan g d)) (e : Fin 1024) : P e := chan_hd e ▸ h (hd e) (ch e)

/-- THE KEYS the first kernel leaves. -/
theorem keys : (dat0 V c).arrAt 6 cfg0.N = normed (V c main_arg0) (V c main_arg1) := by
  refine (dat0 V c).arrAt_eq_of_cover 6 _ (fun t _ => funext (blockCases fun e s => ?_)) (arrayCases fun b e q =>
    ⟨point b q, flush0_6 _, (emb6 (point b q) e (off q)).trans (place_point b e q) ▸ View.emb_mem_set _ _⟩)
  show (cfg0.win 6).cut (grid0.coords t) ((dat0 V c).after 6 t) (ix3 0 e s) = normed (V c main_arg0) (V c main_arg1) (((cfg0.win 6).blk t).view.emb (ix3 0 e s))
  rw [after0_6, emb6, wk_eq]
  refine chanCases (P := fun e => out0_6 (F := Ideal) _ _ _ _ _ _ (ix3 0 e s) = normed _ _ (ix3 (bat t) e (pos t s))) (fun h d => ?_) e
  rw [ProjRead.keys_at, normed_at, row_eq]
  rfl

/-- THE VALUES the first kernel leaves. -/
theorem values : (dat0 V c).arrAt 7 cfg0.N = plain (V c main_arg0) (V c main_arg2) := by
  refine (dat0 V c).arrAt_eq_of_cover 7 _ (fun t _ => funext (blockCases fun e s => ?_)) (arrayCases fun b e q =>
    ⟨point b q, flush0_7 _, (emb7 (point b q) e (off q)).trans (place_point b e q) ▸ View.emb_mem_set _ _⟩)
  show (cfg0.win 7).cut (grid0.coords t) ((dat0 V c).after 7 t) (ix3 0 e s) = plain (V c main_arg0) (V c main_arg2) (((cfg0.win 7).blk t).view.emb (ix3 0 e s))
  rw [after0_7, emb7, wv_eq]
  refine chanCases (P := fun e => out0_7 (F := Ideal) _ _ _ _ _ _ (ix3 0 e s) = plain _ _ (ix3 (bat t) e (pos t s))) (fun h d => ?_) e
  rw [ProjRead.values_at, plain_at, row_eq]
  rfl

/-- THE QUERIES the first kernel leaves. -/
theorem queries : (dat0 V c).arrAt 8 cfg0.N = normed (V c main_arg0) (V c main_arg3) := by
  refine (dat0 V c).arrAt_eq_of_cover 8 _ (fun t _ => funext (blockCases fun e s => ?_)) (arrayCases fun b e q =>
    ⟨point b q, flush0_8 _, (emb8 (point b q) e (off q)).trans (place_point b e q) ▸ View.emb_mem_set _ _⟩)
  show (cfg0.win 8).cut (grid0.coords t) ((dat0 V c).after 8 t) (ix3 0 e s) = normed (V c main_arg0) (V c main_arg3) (((cfg0.win 8).blk t).view.emb (ix3 0 e s))
  rw [after0_8, emb8, wq_eq]
  refine chanCases (P := fun e => out0_8 (F := Ideal) _ _ _ _ _ _ (ix3 0 e s) = normed _ _ (ix3 (bat t) e (pos t s))) (fun h d => ?_) e
  rw [ProjRead.queries_at, normed_at, row_eq]
  rfl

/-- THE FIRST GATES the first kernel leaves. -/
theorem alphas : (dat0 V c).arrAt 9 cfg0.N = gates 0 (by omega) (V c main_arg0) (V c main_v0) (V c main_v2) := by
  refine (dat0 V c).arrAt_eq_of_cover 9 _ (fun t _ => funext (blockCases fun e s => ?_)) (arrayCases fun b e q =>
    ⟨point b q, flush0_9 _, (emb9 (point b q) e (off q)).trans (place_point b e q) ▸ View.emb_mem_set _ _⟩)
  show (cfg0.win 9).cut (grid0.coords t) ((dat0 V c).after 9 t) (ix3 0 e s) = gates 0 (by omega) (V c main_arg0) (V c main_v0) (V c main_v2) (((cfg0.win 9).blk t).view.emb (ix3 0 e s))
  rw [after0_9, emb9, wg_eq, bg_eq]
  show out0_9 (F := Ideal) _ _ _ _ _ _ (ix3 0 e s) = _
  rw [ProjRead.alphas_at _ _ _ _ _ _ e s ⟨0 + e.val, by omega⟩ (Nat.zero_add _), row_eq]
  rfl

/-- THE SECOND GATES the first kernel leaves. -/
theorem thetas : (dat0 V c).arrAt 10 cfg0.N = gates 16 le_rfl (V c main_arg0) (V c main_v0) (V c main_v2) := by
  refine (dat0 V c).arrAt_eq_of_cover 10 _ (fun t _ => funext (blockCases fun e s => ?_)) (arrayCases fun b e q =>
    ⟨point b q, flush0_10 _, (emb10 (point b q) e (off q)).trans (place_point b e q) ▸ View.emb_mem_set _ _⟩)
  show (cfg0.win 10).cut (grid0.coords t) ((dat0 V c).after 10 t) (ix3 0 e s) = gates 16 le_rfl (V c main_arg0) (V c main_v0) (V c main_v2) (((cfg0.win 10).blk t).view.emb (ix3 0 e s))
  rw [after0_10, emb10, wg_eq, bg_eq]
  show out0_10 (F := Ideal) _ _ _ _ _ _ (ix3 0 e s) = _
  rw [ProjRead.thetas_at _ _ _ _ _ _ e s ⟨16 + e.val, by omega⟩ rfl, row_eq]
  rfl
end

end Cert.Proof.Arrays0
-- ==== Proof.Head.lean ====
/- One head of the memory kernel, as a function of arrays: what the second kernel computes of a head's keys, values and
   queries (channels by positions), its two gate rows and the two memory weights. The kernel unrolls four heads per block;
   each of the four is this one function at its own rows. -/
module

public import proofs.«01_k».proof.Proof.Gen.KernelIdeal.Frame

@[expose] public section

noncomputable section

namespace Cert.Proof.Head

open Idealize.ShloMosaic Cert.KernelIdeal Cert.KernelIdeal.Gen

variable {F : FTy → Type} [FloatOps F]

/-- A scalar constant spread over a shape. -/
abbrev spread (s : Shape) (w : BitVec 32) : FVec F s .f32 := broadcast s (Scalar.ofBits .f32 w : F .f32)

/-- The first memory layer: the weights contracted with the input over its 64 channels. -/
def lin0 (w0 : FVec F S64x256 .f32) (k : FVec F S64x2048 .f32) : FVec F S256x2048 .f32 :=
  matmul dot_S64x256_S64x2048_S256x2048_0_0_1_1_n_n none w0 k (constant S256x2048 .f32 0x00000000#32)

/-- One plus the error function of the scaled input: twice the Gaussian distribution function. -/
def opc (p : FVec F S256x2048 .f32) : FVec F S256x2048 .f32 :=
  addf (spread S256x2048 0x3F800000#32) (erf (mulf p (spread S256x2048 0x3F3504F3#32)))

/-- Twice the exact GELU. -/
def gelu2 (p : FVec F S256x2048 .f32) : FVec F S256x2048 .f32 := mulf p (opc p)

/-- The second memory layer, contracted over the 256 hidden channels. -/
def lin1 (w1 : FVec F S256x64 .f32) (h : FVec F S256x2048 .f32) : FVec F S64x2048 .f32 :=
  matmul dot_S256x64_S256x2048_S64x2048_0_0_1_1_n_n none w1 h (constant S64x2048 .f32 0x00000000#32)

/-- The reciprocal root mean square of each position's 64 channels. -/
def inv (p : FVec F S64x2048 .f32) : FVec F S1x2048 .f32 :=
  rsqrt (addf (divf (shapeCast S1x2048 (multiReduction .add [0] S2048 (mulf p p) 0x00000000#32 reduces_S64x2048_S2048 (.inl rfl) rfl) shapeCasts_S2048_S1x2048)
    (spread S1x2048 0x42800000#32)) (spread S1x2048 0x332BCC77#32))

/-- The input normalised by `inv`. -/
def nrm (p : FVec F S64x2048 .f32) : FVec F S64x2048 .f32 :=
  mulf p (broadcastTo S64x2048 (inv p) broadcasts_S1x2048_S64x2048)

/-- The gradient of the loss at the prediction: the rate times the prediction's error. -/
def dpred (n k v : FVec F S64x2048 .f32) (th : FVec F S1x2048 .f32) : FVec F S64x2048 .f32 :=
  mulf (broadcastTo S64x2048 (mulf (spread S1x2048 0x3CA3D70A#32) th) broadcasts_S1x2048_S64x2048) (subf (addf n k) v)

/-- The gradient through the normalisation. -/
def dnorm (i : FVec F S1x2048 .f32) (n d : FVec F S64x2048 .f32) : FVec F S64x2048 .f32 :=
  mulf (subf d (mulf n (broadcastTo S64x2048 (mulf (shapeCast S1x2048 (multiReduction .add [0] S2048 (mulf d n) 0x00000000#32 reduces_S64x2048_S2048 (.inl rfl) rfl) shapeCasts_S2048_S1x2048)
    (spread S1x2048 0x3C800000#32)) broadcasts_S1x2048_S64x2048))) (broadcastTo S64x2048 i broadcasts_S1x2048_S64x2048)

/-- The gradient of the second layer's weights: hidden activations against output gradient, over the positions. -/
def grad1 (h : FVec F S256x2048 .f32) (d : FVec F S64x2048 .f32) : FVec F S256x64 .f32 :=
  matmul dot_S256x2048_S64x2048_S256x64_1_1_0_0_n_n none h d (constant S256x64 .f32 0x00000000#32)

/-- Twice the derivative of the exact GELU. -/
def geluGrad2 (p : FVec F S256x2048 .f32) : FVec F S256x2048 .f32 :=
  addf (opc p) (mulf p (mulf (exp (mulf (mulf (spread S256x2048 0xBF000000#32) p) p)) (spread S256x2048 0x3F4C422A#32)))

/-- The output gradient carried back through the second layer's weights. -/
def back (w1 : FVec F S256x64 .f32) (d : FVec F S64x2048 .f32) : FVec F S256x2048 .f32 :=
  matmul dot_S256x64_S64x2048_S256x2048_1_0_0_1_n_n none w1 d (constant S256x2048 .f32 0x00000000#32)

/-- The gradient of the first layer's weights. -/
def grad0 (k : FVec F S64x2048 .f32) (d : FVec F S256x2048 .f32) : FVec F S64x256 .f32 :=
  matmul dot_S64x2048_S256x2048_S64x256_1_1_0_0_n_n none k d (constant S64x256 .f32 0x00000000#32)

/-- The sum of the squares of the first layer's gradient. -/
def ssq0 (g : FVec F S64x256 .f32) : FVec F S1x1 .f32 :=
  shapeCast S1x1 (multiReduction .add [1] S1 (shapeCast S1x256 (multiReduction .add [0] S256 (mulf g g) 0x00000000#32 reduces_S64x256_S256 (.inl rfl) rfl) shapeCasts_S256_S1x256) 0x00000000#32 reduces_S1x256_S1 (.inl rfl) rfl) shapeCasts_S1_S1x1

/-- The sum of the squares of the second layer's gradient. -/
def ssq1 (g : FVec F S256x64 .f32) : FVec F S1x1 .f32 :=
  shapeCast S1x1 (multiReduction .add [1] S1 (shapeCast S1x64 (multiReduction .add [0] S64 (mulf g g) 0x00000000#32 reduces_S256x64_S64 (.inl rfl) rfl) shapeCasts_S64_S1x64) 0x00000000#32 reduces_S1x64_S1 (.inl rfl) rfl) shapeCasts_S1_S1x1

/-- The clipping factor of the gradients by their global norm. -/
def clip (g0 : FVec F S64x256 .f32) (g1 : FVec F S256x64 .f32) : FVec F S1x1 .f32 :=
  minimumf (divf (spread S1x1 0x41200000#32) (addf (sqrt (addf (ssq0 g0) (ssq1 g1))) (spread S1x1 0x358637BD#32))) (spread S1x1 0x3F800000#32)

/-- One minus the mean forgetting gate. -/
def keep (al : FVec F S1x2048 .f32) : FVec F S1x1 .f32 :=
  subf (spread S1x1 0x3F800000#32) (divf (shapeCast S1x1 (multiReduction .add [1] S1 al 0x00000000#32 reduces_S1x2048_S1 (.inl rfl) rfl) shapeCasts_S1_S1x1) (spread S1x1 0x45000000#32))

/-- The updated first layer before its finiteness guard. -/
def upd0 (kp cf : FVec F S1x1 .f32) (w0 g : FVec F S64x256 .f32) : FVec F S64x256 .f32 :=
  subf (mulf (broadcastTo S64x256 kp broadcasts_S1x1_S64x256) w0) (mulf (broadcastTo S64x256 cf broadcasts_S1x1_S64x256) g)

/-- The updated second layer before its finiteness guard. -/
def upd1 (kp cf : FVec F S1x1 .f32) (w1 g : FVec F S256x64 .f32) : FVec F S256x64 .f32 :=
  subf (mulf (broadcastTo S256x64 kp broadcasts_S1x1_S256x64) w1) (mulf (broadcastTo S256x64 cf broadcasts_S1x1_S256x64) g)

/-- Where the new value is finite it, elsewhere the old. -/
def guard (s : Shape) (x y : FVec F s .f32) : FVec F s .f32 := select (xori (weird x) (constantI s 1 1#1)) x y

section
variable (k v : FVec F S64x2048 .f32) (th al : FVec F S1x2048 .f32) (w0 : FVec F S64x256 .f32) (w1 : FVec F S256x64 .f32)

/-- The second layer's output on the keys. -/
def out1 : FVec F S64x2048 .f32 := lin1 w1 (gelu2 (lin0 w0 k))
/-- The gradient at the prediction. -/
def dp : FVec F S64x2048 .f32 := dpred (nrm (out1 k w0 w1)) k v th
/-- The gradient at the second layer's output. -/
def dh : FVec F S64x2048 .f32 := dnorm (inv (out1 k w0 w1)) (nrm (out1 k w0 w1)) (dp k v th w0 w1)
/-- The second layer's weight gradient. -/
def g1 : FVec F S256x64 .f32 := grad1 (gelu2 (lin0 w0 k)) (dh k v th w0 w1)
/-- The first layer's weight gradient. -/
def g0 : FVec F S64x256 .f32 := grad0 k (mulf (back w1 (dh k v th w0 w1)) (geluGrad2 (lin0 w0 k)))
/-- The clipping factor. -/
def cf : FVec F S1x1 .f32 := clip (g0 k v th w0 w1) (g1 k v th w0 w1)
/-- The first layer after the update. -/
def nw0 : FVec F S64x256 .f32 := guard S64x256 (upd0 (keep al) (cf k v th w0 w1) w0 (g0 k v th w0 w1)) w0
/-- The second layer after the update. -/
def nw1 : FVec F S256x64 .f32 := guard S256x64 (upd1 (keep al) (cf k v th w0 w1) w1 (g1 k v th w0 w1)) w1
/-- The updated memory read at the queries, guarded. -/
def rd (q : FVec F S64x2048 .f32) : FVec F S64x2048 .f32 :=
  guard S64x2048 (lin1 (nw1 k v th al w0 w1) (gelu2 (lin0 (nw0 k v th al w0 w1) q))) (spread S64x2048 0x00000000#32)
/-- One head's output: the reading normalised, plus the queries. -/
def head (q : FVec F S64x2048 .f32) : FVec F S64x2048 .f32 := addf (nrm (rd k v th al w0 w1 q)) q
end

end Cert.Proof.Head
-- ==== Proof.Block1.lean ====
/- The block the second kernel writes, as its four heads: each is `Head.head` at its own 64 rows. -/
module

public import proofs.«01_k».proof.Proof.Head

@[expose] public section

noncomputable section

namespace Cert.Proof.Head

open Idealize.ShloMosaic Cert.KernelIdeal Cert.KernelIdeal.Gen

variable {F : FTy → Type} [FloatOps F]

/-- The block of keys or values at single precision, channels by positions. -/
def wide (x : Vec F S1x1x256x2048 .bf16) : FVec F S256x2048 .f32 :=
  extf .f32 (shapeCast S256x2048 x shapeCasts_S1x1x256x2048_S256x2048 : FVec F S256x2048 .bf16) bitsLt_bf16_f32

/-- The output of the head whose 64 rows start at row `o` and whose gate row is `r`. -/
def headAt (o r : Nat) (ho : S256x2048.Slices ![o, 0] S64x2048) (hr : S4x2048.Slices ![r, 0] S1x2048)
    (k v q : FVec F S256x2048 .f32) (th al : FVec F S4x2048 .f32) (w0 : FVec F S64x256 .f32) (w1 : FVec F S256x64 .f32) :
    FVec F S64x2048 .f32 :=
  head (extractStridedSlice S64x2048 ![o, 0] k ho) (extractStridedSlice S64x2048 ![o, 0] v ho)
    (extractStridedSlice S1x2048 ![r, 0] th hr) (extractStridedSlice S1x2048 ![r, 0] al hr) w0 w1
    (extractStridedSlice S64x2048 ![o, 0] q ho)

/-- The four heads of a block, stacked along the channels, positions first. -/
def block (k v q : FVec F S256x2048 .f32) (th al : FVec F S4x2048 .f32) (w0 : FVec F S64x256 .f32) (w1 : FVec F S256x64 .f32) :
    Vec F S1x2048x256 .f32 :=
  shapeCast S1x2048x256 (transpose S2048x256 [1, 0] (concatenate S256x2048 0
    [⟨S64x2048, headAt 0 0 slices_S256x2048_o0_0_S64x2048 slices_S4x2048_o0_0_S1x2048 k v q th al w0 w1⟩,
     ⟨S64x2048, headAt 64 1 slices_S256x2048_o64_0_S64x2048 slices_S4x2048_o1_0_S1x2048 k v q th al w0 w1⟩,
     ⟨S64x2048, headAt 128 2 slices_S256x2048_o128_0_S64x2048 slices_S4x2048_o2_0_S1x2048 k v q th al w0 w1⟩,
     ⟨S64x2048, headAt 192 3 slices_S256x2048_o192_0_S64x2048 slices_S4x2048_o3_0_S1x2048 k v q th al w0 w1⟩]
    concatenates_S64x2048_S64x2048_S64x2048_S64x2048_S256x2048_d0) transposes_S256x2048_p1_0_S2048x256) shapeCasts_S2048x256_S1x2048x256

/-- The block the second kernel writes is the four heads of its input blocks. -/
theorem out1_7_eq (x0 : Vec F S1x1x256x2048 .bf16) (x1 : Vec F S1x1x256x2048 .bf16) (x2 : Vec F S1x1x256x2048 .f32) (x3 : Vec F S1x1x4x2048 .f32) (x4 : Vec F S1x1x4x2048 .f32) (x5 : Vec F S64x256 .f32) (x6 : Vec F S256x64 .f32) :
    out1_7 x0 x1 x2 x3 x4 x5 x6 = View.canon [⟨r1_4, block (wide (View.ld x0 r1_0)) (wide (View.ld x1 r1_0))
      (shapeCast S256x2048 (View.ld x2 r1_0) shapeCasts_S1x1x256x2048_S256x2048)
      (shapeCast S4x2048 (View.ld x3 r1_1) shapeCasts_S1x1x4x2048_S4x2048) (shapeCast S4x2048 (View.ld x4 r1_1) shapeCasts_S1x1x4x2048_S4x2048)
      (View.ld x5 r1_2) (View.ld x6 r1_3)⟩] := by
  chain_rfl

end Cert.Proof.Head
-- ==== Proof.HeadRead.lean ====
/- One head of the second kernel read at an index on the extended reals. Each step is the reference's formula, with the
   factor two or a half the kernel carries: its hidden activations and outputs are twice the reference's, its reciprocal
   root and output gradient half. -/
module

public import proofs.«01_k».proof.Proof.Head
public import proofs.«01_k».proof.Proof.Ops
public import proofs.«01_k».proof.Proof.Algebra

@[expose] public section

noncomputable section

namespace Cert.Proof.HeadRead

open Idealize.ShloMosaic Idealize.ShloMosaic.ValueIdx Cert.KernelIdeal Cert.KernelIdeal.Gen
open Cert.Proof.Spec (w32 Rows Hid Gate Mat0 Mat1)
open Cert.Proof
open scoped BigOperators

/-- The real two and a half, as the extended reals the kernel's factors are. -/
abbrev two : EReal := ((2 : ℝ) : EReal)
/-- One half. -/
abbrev half : EReal := ((1 / 2 : ℝ) : EReal)

/-- The channels-by-positions array `x` holds `X`, positions first. -/
abbrev Holds (x : FVec Ideal S64x2048 .f32) (X : Rows) : Prop := ∀ d s, x (ix2 d s) = X s d
/-- The hidden array `x` holds `X`, positions first. -/
abbrev HoldsH (x : FVec Ideal S256x2048 .f32) (X : Hid) : Prop := ∀ j s, x (ix2 j s) = X s j
/-- The row `x` holds `X`. -/
abbrev HoldsG (x : FVec Ideal S1x2048 .f32) (X : Gate) : Prop := ∀ s, x (ix2 0 s) = X s
/-- The matrix `x` holds `X`. -/
abbrev Holds0 (x : FVec Ideal S64x256 .f32) (X : Mat0) : Prop := ∀ i j, x (ix2 i j) = X i j
/-- The matrix `x` holds `X`. -/
abbrev Holds1 (x : FVec Ideal S256x64 .f32) (X : Mat1) : Prop := ∀ j i, x (ix2 j i) = X j i

/-- The first layer. -/
theorem lin0_at {w0 k} {W0 : Mat0} {K : Rows} (hw : Holds0 w0 W0) (hk : Holds k K) :
    HoldsH (Head.lin0 w0 k) (Spec.lin0 W0 K) := fun j s => by
  refine (Ops.product _ 64 rfl rfl w0 k (ix2 j s) (fun i => W0 i j) (fun i => K s i) (fun i => ?_) (fun i => ?_)).trans
    (Finset.sum_congr rfl fun i _ => mul_comm _ _)
  · exact (congrArg w0 (funext fun a => by fin_cases a <;> rfl)).trans (hw _ _)
  · exact (congrArg k (funext fun a => by fin_cases a <;> rfl)).trans (hk _ _)

/-- One plus the error function. -/
theorem opc_at {p} {P : Hid} (hp : HoldsH p P) : HoldsH (Head.opc p) fun s j => Spec.opc (P s j) := fun j s => by
  beta_reduce; rw [← hp]; rfl

/-- Twice the GELU. -/
theorem gelu2_at {p} {P : Hid} (hp : HoldsH p P) : HoldsH (Head.gelu2 p) fun s j => two * Spec.gelu (P s j) := fun j s => by
  have h : Head.gelu2 p (ix2 j s) = p (ix2 j s) * Head.opc p (ix2 j s) := rfl
  beta_reduce; rw [← Algebra.gelu_two, h, opc_at hp, hp]

/-- The second layer of twice an array. -/
theorem lin1_at {w1 h} {W1 : Mat1} {H : Hid} (hw : Holds1 w1 W1) (hh : HoldsH h fun s j => two * H s j) :
    Holds (Head.lin1 w1 h) fun s d => two * Spec.lin1 W1 H s d := fun d s => by
  refine (Ops.product _ 256 rfl rfl w1 h (ix2 d s) (fun j => W1 j d) (fun j => two * H s j) (fun j => ?_) (fun j => ?_)).trans ?_
  · exact (congrArg w1 (funext fun a => by fin_cases a <;> rfl)).trans (hw _ _)
  · exact (congrArg h (funext fun a => by fin_cases a <;> rfl)).trans (hh _ _)
  · unfold Spec.lin1
    beta_reduce; rw [Algebra.coe_mul_sum (by norm_num)]
    exact Finset.sum_congr rfl fun j _ => by rw [mul_comm, mul_assoc]

/-- The reciprocal root mean square of twice an array. -/
theorem inv_at {p} {P : Rows} (hp : Holds p fun s d => two * P s d) :
    HoldsG (Head.inv p) fun s => half * Ideal.rsqrt (Spec.msq P s) := fun s => by
  beta_reduce; rw [← Algebra.inv_two]
  refine congrArg (fun t => Ideal.rsqrt (Ideal.div t (w32 0x42800000#32) + w32 0x332BCC77#32)) ?_
  refine (Ops.colSum _ _ _ _ _ s).trans (Finset.sum_congr rfl fun d _ => ?_)
  exact congrArg₂ (· * ·) (hp d s) (hp d s)

/-- Normalising twice an array normalises the array. -/
theorem nrm_at {p} {P : Rows} (hp : Holds p fun s d => two * P s d) : Holds (Head.nrm p) (Spec.nrm P) := fun d s => by
  have h : Head.nrm p (ix2 d s) = p (ix2 d s) * Head.inv p (ix2 0 s) :=
    congrArg (p (ix2 d s) * ·) (Ops.spreadRow (by decide) (Head.inv p) _ d s)
  rw [h, hp, inv_at hp, Algebra.nrm_eq]
  beta_reduce
  rw [mul_mul_mul_comm, mul_left_comm, mul_assoc, mul_left_comm two, Algebra.half_two]

/-- The gradient at the prediction: the kernel's rate is twice the reference's. -/
theorem dpred_at {n k v th} {N K V : Rows} {T : Gate} (hn : Holds n N) (hk : Holds k K) (hv : Holds v V) (ht : HoldsG th T) :
    Holds (Head.dpred n k v th) (Spec.dpred N K V fun s => T s * w32 0x3C23D70A#32) := fun d s => by
  have h : Head.dpred n k v th (ix2 d s) = (w32 0x3CA3D70A#32 * th (ix2 0 s)) * (n (ix2 d s) + k (ix2 d s) - v (ix2 d s)) :=
    congrArg (· * (n (ix2 d s) + k (ix2 d s) - v (ix2 d s))) (Ops.spreadRow (by decide) _ _ d s)
  rw [h, hn, hk, hv, ht, Algebra.w32_rate, Spec.dpred, mul_assoc (w32 0x40000000#32), mul_comm (T s)]

/-- The gradient through the normalisation: half of the reference's. -/
theorem dnorm_at {p g} {P G : Rows} (hp : Holds p fun s d => two * P s d) (hg : Holds g G) :
    Holds (Head.dnorm (Head.inv p) (Head.nrm p) g) fun s d => half * Spec.dnorm P G s d := fun d s => by
  have h : Head.dnorm (Head.inv p) (Head.nrm p) g (ix2 d s)
      = (g (ix2 d s) - Head.nrm p (ix2 d s) * ((∑ e, g (ix2 e s) * Head.nrm p (ix2 e s)) * w32 0x3C800000#32)) * Head.inv p (ix2 0 s) := by
    refine congrArg₂ (fun a b => (g (ix2 d s) - Head.nrm p (ix2 d s) * a) * b)
      ((Ops.spreadRow (by decide) _ _ d s).trans ?_) (Ops.spreadRow (by decide) _ _ d s)
    exact congrArg (· * w32 0x3C800000#32) (Ops.colSum _ _ _ _ _ s)
  beta_reduce
  rw [h, Algebra.dnorm_eq, inv_at hp, Algebra.w32_inv64, mul_left_comm]
  simp only [hg _ _, nrm_at hp _ _]

/-- The second layer's weight gradient: twice the activations against half the gradient. -/
theorem grad1_at {h g} {H : Hid} {G : Rows} (hh : HoldsH h fun s j => two * H s j) (hg : Holds g fun s d => half * G s d) :
    Holds1 (Head.grad1 h g) (Spec.grad1 H G) := fun j d => by
  refine (Ops.product _ 2048 rfl rfl h g (ix2 j d) (fun s => two * H s j) (fun s => half * G s d) (fun s => ?_) (fun s => ?_)).trans
    (Finset.sum_congr rfl fun s _ => ?_)
  · exact (congrArg h (funext fun a => by fin_cases a <;> rfl)).trans (hh _ _)
  · exact (congrArg g (funext fun a => by fin_cases a <;> rfl)).trans (hg _ _)
  · rw [mul_mul_mul_comm, ← EReal.coe_mul]; norm_num

/-- Twice the GELU's derivative. -/
theorem geluGrad2_at {p} {P : Hid} (hp : HoldsH p P) : HoldsH (Head.geluGrad2 p) fun s j => two * Spec.geluGrad (P s j) :=
  fun j s => by
  have h : Head.geluGrad2 p (ix2 j s) = Head.opc p (ix2 j s)
      + p (ix2 j s) * (Ideal.exp (w32 0xBF000000#32 * p (ix2 j s) * p (ix2 j s)) * w32 0x3F4C422A#32) := rfl
  beta_reduce; rw [← Algebra.geluGrad_two, h, opc_at hp, hp]

/-- Half a gradient carried back is half the gradient carried back. -/
theorem back_at {w1 g} {W1 : Mat1} {G : Rows} (hw : Holds1 w1 W1) (hg : Holds g fun s d => half * G s d) :
    HoldsH (Head.back w1 g) fun s j => half * Spec.back W1 G s j := fun j s => by
  refine (Ops.product _ 64 rfl rfl w1 g (ix2 j s) (fun d => W1 j d) (fun d => half * G s d) (fun d => ?_) (fun d => ?_)).trans ?_
  · exact (congrArg w1 (funext fun a => by fin_cases a <;> rfl)).trans (hw _ _)
  · exact (congrArg g (funext fun a => by fin_cases a <;> rfl)).trans (hg _ _)
  · unfold Spec.back
    beta_reduce; rw [Algebra.coe_mul_sum (by norm_num)]
    exact Finset.sum_congr rfl fun d _ => by rw [mul_comm, mul_assoc]

/-- The first layer's weight gradient. -/
theorem grad0_at {k g} {K : Rows} {G : Hid} (hk : Holds k K) (hg : HoldsH g G) : Holds0 (Head.grad0 k g) (Spec.grad0 K G) :=
  fun i j => by
  refine Ops.product _ 2048 rfl rfl k g (ix2 i j) (fun s => K s i) (fun s => G s j) (fun s => ?_) (fun s => ?_)
  · exact (congrArg k (funext fun a => by fin_cases a <;> rfl)).trans (hk _ _)
  · exact (congrArg g (funext fun a => by fin_cases a <;> rfl)).trans (hg _ _)

/-- The first layer's sum of squares. -/
theorem ssq0_at {g} {G : Mat0} (hg : Holds0 g G) : Head.ssq0 g (ix2 0 0) = ∑ i, ∑ j, G i j * G i j := by
  rw [Finset.sum_comm]
  refine (Ops.rowSum _ _ _ _ _).trans (Finset.sum_congr rfl fun j _ => (Ops.colSum _ _ _ _ _ j).trans
    (Finset.sum_congr rfl fun i _ => ?_))
  rw [← hg]; rfl

/-- The second layer's sum of squares. -/
theorem ssq1_at {g} {G : Mat1} (hg : Holds1 g G) : Head.ssq1 g (ix2 0 0) = ∑ j, ∑ i, G j i * G j i := by
  rw [Finset.sum_comm]
  refine (Ops.rowSum _ _ _ _ _).trans (Finset.sum_congr rfl fun i _ => (Ops.colSum _ _ _ _ _ i).trans
    (Finset.sum_congr rfl fun j _ => ?_))
  rw [← hg]; rfl

/-- The clipping factor. -/
theorem clip_at {g0 g1} {G0 : Mat0} {G1 : Mat1} (h0 : Holds0 g0 G0) (h1 : Holds1 g1 G1) :
    Head.clip g0 g1 (ix2 0 0) = Spec.clip ((∑ i, ∑ j, G0 i j * G0 i j) + ∑ j, ∑ i, G1 j i * G1 j i) := by
  rw [← ssq0_at h0, ← ssq1_at h1]; rfl

/-- One minus the mean forgetting gate. -/
theorem keep_at {al} {A : Gate} (ha : HoldsG al A) : Head.keep al (ix2 0 0) = Spec.keep A := by
  refine congrArg (fun t => w32 0x3F800000#32 - Ideal.div t (w32 0x45000000#32)) ?_
  exact (Ops.rowSum _ _ _ _ _).trans (Finset.sum_congr rfl fun s _ => ha s)

/-- A guarded vector at an index: the new value where it is finite, elsewhere the other. -/
theorem guard_at (s : Shape) (x y : FVec Ideal s .f32) (i : s.Idx) :
    Head.guard s x y i = if x i = ⊤ ∨ x i = ⊥ then y i else x i := by
  have h : Head.guard s x y i = if (BitVec.ofBool (decide (x i = ⊤ ∨ x i = ⊥)) ^^^ 1#1) = 1#1 then x i else y i := rfl
  rw [h]
  by_cases hx : x i = ⊤ ∨ x i = ⊥ <;> simp [hx]

/-- The first layer after the update. -/
theorem upd0_at {kp cf w0 g} {W0 G : Mat0} {KP CF : EReal} (em : EReal) (hkp : kp (ix2 0 0) = KP) (hcf : cf (ix2 0 0) = CF)
    (hw : Holds0 w0 W0) (hg : Holds0 g G) :
    Holds0 (Head.guard S64x256 (Head.upd0 kp cf w0 g) w0) fun i j => Spec.upd KP em CF (W0 i j) (G i j) := fun i j => by
  have h : Head.upd0 kp cf w0 g (ix2 i j) = KP * W0 i j - CF * G i j := by
    rw [← hkp, ← hcf, ← hw, ← hg]
    exact congrArg₂ (fun a b => a * w0 (ix2 i j) - b * g (ix2 i j)) (Ops.spreadOne _ _ i j) (Ops.spreadOne _ _ i j)
  beta_reduce; rw [guard_at, h, Algebra.upd_eq, hw]

/-- The second layer after the update. -/
theorem upd1_at {kp cf w1 g} {W1 G : Mat1} {KP CF : EReal} (em : EReal) (hkp : kp (ix2 0 0) = KP) (hcf : cf (ix2 0 0) = CF)
    (hw : Holds1 w1 W1) (hg : Holds1 g G) :
    Holds1 (Head.guard S256x64 (Head.upd1 kp cf w1 g) w1) fun j i => Spec.upd KP em CF (W1 j i) (G j i) := fun i j => by
  have h : Head.upd1 kp cf w1 g (ix2 i j) = KP * W1 i j - CF * G i j := by
    rw [← hkp, ← hcf, ← hw, ← hg]
    exact congrArg₂ (fun a b => a * w1 (ix2 i j) - b * g (ix2 i j)) (Ops.spreadOne _ _ i j) (Ops.spreadOne _ _ i j)
  beta_reduce; rw [guard_at, h, Algebra.upd_eq, hw]

section
variable {k v th al w0 w1 q} {K V Q : Rows} {T A : Gate} {W0 : Mat0} {W1 : Mat1} (E : Gate)

/-- The memory's output on an input is twice the reference's. -/
theorem out1_at (hk : Holds k K) (h0 : Holds0 w0 W0) (h1 : Holds1 w1 W1) :
    Holds (Head.out1 k w0 w1) fun s d => two * Spec.out1 W0 W1 K s d :=
  lin1_at h1 (gelu2_at (lin0_at h0 hk))

/-- The output gradient is half the reference's. -/
theorem dh_at (hk : Holds k K) (hv : Holds v V) (ht : HoldsG th T) (h0 : Holds0 w0 W0) (h1 : Holds1 w1 W1) :
    Holds (Head.dh k v th w0 w1) fun s d => half * Spec.dh K V (fun s => T s * w32 0x3C23D70A#32) W0 W1 s d :=
  dnorm_at (out1_at hk h0 h1) (dpred_at (nrm_at (out1_at hk h0 h1)) hk hv ht)

/-- The second layer's weight gradient. -/
theorem g1_at (hk : Holds k K) (hv : Holds v V) (ht : HoldsG th T) (h0 : Holds0 w0 W0) (h1 : Holds1 w1 W1) :
    Holds1 (Head.g1 k v th w0 w1) (Spec.g1 K V (fun s => T s * w32 0x3C23D70A#32) W0 W1) :=
  grad1_at (gelu2_at (lin0_at h0 hk)) (dh_at hk hv ht h0 h1)

/-- The first layer's weight gradient. -/
theorem g0_at (hk : Holds k K) (hv : Holds v V) (ht : HoldsG th T) (h0 : Holds0 w0 W0) (h1 : Holds1 w1 W1) :
    Holds0 (Head.g0 k v th w0 w1) (Spec.g0 K V (fun s => T s * w32 0x3C23D70A#32) W0 W1) := by
  refine grad0_at hk fun j s => ?_
  have h : mulf (Head.back w1 (Head.dh k v th w0 w1)) (Head.geluGrad2 (Head.lin0 w0 k)) (ix2 j s)
      = Head.back w1 (Head.dh k v th w0 w1) (ix2 j s) * Head.geluGrad2 (Head.lin0 w0 k) (ix2 j s) := rfl
  rw [h, back_at h1 (dh_at hk hv ht h0 h1), geluGrad2_at (lin0_at h0 hk), mul_mul_mul_comm, ← EReal.coe_mul]
  norm_num

/-- The clipping factor. -/
theorem cf_at (hk : Holds k K) (hv : Holds v V) (ht : HoldsG th T) (h0 : Holds0 w0 W0) (h1 : Holds1 w1 W1) :
    Head.cf k v th w0 w1 (ix2 0 0) = Spec.cf K V (fun s => T s * w32 0x3C23D70A#32) W0 W1 :=
  clip_at (g0_at hk hv ht h0 h1) (g1_at hk hv ht h0 h1)

/-- The first layer after the update. -/
theorem nw0_at (hk : Holds k K) (hv : Holds v V) (ht : HoldsG th T) (ha : HoldsG al A) (h0 : Holds0 w0 W0) (h1 : Holds1 w1 W1) :
    Holds0 (Head.nw0 k v th al w0 w1) (Spec.nw0 K V (fun s => T s * w32 0x3C23D70A#32) A E W0 W1) :=
  upd0_at _ (keep_at ha) (cf_at hk hv ht h0 h1) h0 (g0_at hk hv ht h0 h1)

/-- The second layer after the update. -/
theorem nw1_at (hk : Holds k K) (hv : Holds v V) (ht : HoldsG th T) (ha : HoldsG al A) (h0 : Holds0 w0 W0) (h1 : Holds1 w1 W1) :
    Holds1 (Head.nw1 k v th al w0 w1) (Spec.nw1 K V (fun s => T s * w32 0x3C23D70A#32) A E W0 W1) :=
  upd1_at _ (keep_at ha) (cf_at hk hv ht h0 h1) h1 (g1_at hk hv ht h0 h1)

/-- The updated memory read at the queries is twice the reference's reading. -/
theorem rd_at (hk : Holds k K) (hv : Holds v V) (ht : HoldsG th T) (ha : HoldsG al A) (h0 : Holds0 w0 W0) (h1 : Holds1 w1 W1)
    (hq : Holds q Q) :
    Holds (Head.rd k v th al w0 w1 q) fun s d => two * Spec.rd K V (fun s => T s * w32 0x3C23D70A#32) A E W0 W1 Q s d := fun d s => by
  have h := lin1_at (nw1_at E hk hv ht ha h0 h1) (gelu2_at (lin0_at (nw0_at E hk hv ht ha h0 h1) hq)) d s
  unfold Head.rd Spec.rd
  rw [guard_at, h]
  beta_reduce
  rw [← Algebra.fin_two]
  have hz : Head.spread (F := Ideal) S64x2048 0x00000000#32 (ix2 d s) = (0 : EReal) := Algebra.w32_zero
  rw [hz]; rfl

/-- ONE HEAD: the kernel's output is the reference's, whatever momentum gate the reference is given. -/
theorem head_at (hk : Holds k K) (hv : Holds v V) (ht : HoldsG th T) (ha : HoldsG al A) (h0 : Holds0 w0 W0) (h1 : Holds1 w1 W1)
    (hq : Holds q Q) :
    Holds (Head.head k v th al w0 w1 q) (Spec.head K V (fun s => T s * w32 0x3C23D70A#32) A E W0 W1 Q) := fun d s => by
  have h : Head.head k v th al w0 w1 q (ix2 d s) = Head.nrm (Head.rd k v th al w0 w1 q) (ix2 d s) + q (ix2 d s) := rfl
  rw [h, nrm_at (rd_at E hk hv ht ha h0 h1 hq), hq]; rfl
end

end Cert.Proof.HeadRead
-- ==== Proof.BlockRead.lean ====
/- The block the second kernel writes, read at an index: each of its four heads is the reference's head of its own rows. -/
module

public import proofs.«01_k».proof.Proof.Block1
public import proofs.«01_k».proof.Proof.HeadRead
public import Idealize.ShloMosaic.Lib.Pipeline.Value

@[expose] public section

noncomputable section

namespace Cert.Proof.BlockRead

open Idealize.ShloMosaic Idealize.ShloMosaic.ValueIdx Cert.KernelIdeal Cert.KernelIdeal.Gen
open Cert.Proof
open Cert.Proof.Spec (w32 Rows Gate Mat0 Mat1)
open Cert.Proof.HeadRead (Holds HoldsG Holds0 Holds1)

/-- The row of a block that holds channel `d` of its head `g`. -/
def at4 (g : Fin 4) (d : Fin 64) : Fin 256 := ⟨g.val * 64 + d.val, by omega⟩

/-- The channels-by-positions block `x` holds the four heads `X`. -/
abbrev HoldsB (x : FVec Ideal S256x2048 .f32) (X : Fin 4 → Rows) : Prop := ∀ g d s, x (ix2 (at4 g d) s) = X g s d
/-- The gate block `x` holds the four gates `X`. -/
abbrev HoldsT (x : FVec Ideal S4x2048 .f32) (X : Fin 4 → Gate) : Prop := ∀ g s, x (ix2 g s) = X g s

section
variable {k v q : FVec Ideal S256x2048 .f32} {th al : FVec Ideal S4x2048 .f32} {w0 : FVec Ideal S64x256 .f32} {w1 : FVec Ideal S256x64 .f32}
variable {K V Q : Fin 4 → Rows} {T A : Fin 4 → Gate} {W0 : Mat0} {W1 : Mat1}

/-- The 64 rows from row `g * 64` are head `g`. -/
theorem rows_at {x : FVec Ideal S256x2048 .f32} {X : Fin 4 → Rows} (hx : HoldsB x X) (g : Fin 4) (o : Nat) (ho : o = g.val * 64)
    (h : S256x2048.Slices ![o, 0] S64x2048) : Holds (extractStridedSlice S64x2048 ![o, 0] x h) (X g) := fun d s =>
  (extractStridedSlice_apply ![o, 0] x h (ix2 d s) (ix2 (at4 g d) s) fun a => by
    fin_cases a
    · show g.val * 64 + d.val = o + d.val; omega
    · show s.val = 0 + s.val; omega).trans (hx g d s)

/-- Row `g` of the gate block is gate `g`. -/
theorem gate_at {x : FVec Ideal S4x2048 .f32} {X : Fin 4 → Gate} (hx : HoldsT x X) (g : Fin 4) (r : Nat) (hr : r = g.val)
    (h : S4x2048.Slices ![r, 0] S1x2048) : HoldsG (extractStridedSlice S1x2048 ![r, 0] x h) (X g) := fun s =>
  (extractStridedSlice_apply ![r, 0] x h (ix2 0 s) (ix2 g s) fun a => by
    fin_cases a
    · show g.val = r + 0; omega
    · show s.val = 0 + s.val; omega).trans (hx g s)

/-- Head `g` of the block is the reference's. -/
theorem headAt_at (E : Gate) (hk : HoldsB k K) (hv : HoldsB v V) (hq : HoldsB q Q) (ht : HoldsT th T) (ha : HoldsT al A)
    (h0 : Holds0 w0 W0) (h1 : Holds1 w1 W1) (g : Fin 4) (o r : Nat) (ho : o = g.val * 64) (hr : r = g.val)
    (so : S256x2048.Slices ![o, 0] S64x2048) (sr : S4x2048.Slices ![r, 0] S1x2048) :
    Holds (Head.headAt o r so sr k v q th al w0 w1)
      (Spec.head (K g) (V g) (fun s => T g s * w32 0x3C23D70A#32) (A g) E W0 W1 (Q g)) :=
  HeadRead.head_at E (rows_at hk g o ho so) (rows_at hv g o ho so) (gate_at ht g r hr sr) (gate_at ha g r hr sr) h0 h1
    (rows_at hq g o ho so)

/-- Four stacks of 64 rows, read at a row of stack `g`. -/
theorem stack4 {α : Type} (x₀ x₁ x₂ x₃ : S64x2048.Idx → α)
    (h : Shape.Concatenates (([⟨S64x2048, x₀⟩, ⟨S64x2048, x₁⟩, ⟨S64x2048, x₂⟩, ⟨S64x2048, x₃⟩] : List ((s : Shape) × (s.Idx → α))).map (·.1)) S256x2048 0)
    (g : Fin 4) (d : Fin 64) (s : Fin 2048) :
    concatenate S256x2048 0 [⟨S64x2048, x₀⟩, ⟨S64x2048, x₁⟩, ⟨S64x2048, x₂⟩, ⟨S64x2048, x₃⟩] h (ix2 (at4 g d) s) = (![x₀, x₁, x₂, x₃] g) (ix2 d s) := by
  have hi : ∀ b : Fin S64x2048.rank, b.cast (rfl : S64x2048.rank = S256x2048.rank) ≠ 0 →
      ((ix2 d s : S64x2048.Idx) b).val = ((ix2 (at4 g d) s : S256x2048.Idx) (b.cast rfl)).val :=
    fun b hb => by fin_cases b; exacts [absurd rfl hb, rfl]
  refine concatenate_apply_piece (t := S256x2048) 0 _ h _ g.val g.isLt S64x2048 (![x₀, x₁, x₂, x₃] g) ?_ rfl (g.val * 64) ?_ (ix2 d s) hi rfl
  · fin_cases g <;> rfl
  · fin_cases g <;> rfl

/-- THE BLOCK: position `s`, channel `d` of head `g` is the reference's. -/
theorem block_at (E : Fin 4 → Gate) (hk : HoldsB k K) (hv : HoldsB v V) (hq : HoldsB q Q) (ht : HoldsT th T) (ha : HoldsT al A)
    (h0 : Holds0 w0 W0) (h1 : Holds1 w1 W1) (s : Fin 2048) (g : Fin 4) (d : Fin 64) :
    Head.block k v q th al w0 w1 (ix3 0 s (at4 g d))
      = Spec.head (K g) (V g) (fun s => T g s * w32 0x3C23D70A#32) (A g) (E g) W0 W1 (Q g) s d := by
  unfold Head.block
  refine (shapeCast_addUnit_apply _ _ _ _).trans ?_
  refine (transpose_apply _ _ _ _ (ix2 (at4 g d) s) fun b => by fin_cases b <;> rfl).trans ?_
  refine (stack4 _ _ _ _ _ g d s).trans ?_
  match g with
  | ⟨0, _⟩ => exact headAt_at (E 0) hk hv hq ht ha h0 h1 0 0 0 rfl rfl _ _ d s
  | ⟨1, _⟩ => exact headAt_at (E 1) hk hv hq ht ha h0 h1 1 64 1 rfl rfl _ _ d s
  | ⟨2, _⟩ => exact headAt_at (E 2) hk hv hq ht ha h0 h1 2 128 2 rfl rfl _ _ d s
  | ⟨3, _⟩ => exact headAt_at (E 3) hk hv hq ht ha h0 h1 3 192 3 rfl rfl _ _ d s
end

/-- A stack of one by one by 256 by 2048 cast to its last two axes. -/
theorem cast256 {α : Type} (x : S1x1x256x2048.Idx → α) (h : S1x1x256x2048.ShapeCasts S256x2048) (r : Fin 256) (s : Fin 2048) :
    shapeCast S256x2048 x h (ix2 r s) = x (ix4 0 0 r s) :=
  shapeCast_apply x h (ix2 r s) (ix4 0 0 r s) (by
    rw [Shape.rowMajor_val_four, Shape.rowMajor_val_two]
    show ((0 * 1 + 0) * 256 + r.val) * 2048 + s.val = r.val * 2048 + s.val; omega)

/-- A stack of one by one by 4 by 2048 cast to its last two axes. -/
theorem cast4 {α : Type} (x : S1x1x4x2048.Idx → α) (h : S1x1x4x2048.ShapeCasts S4x2048) (r : Fin 4) (s : Fin 2048) :
    shapeCast S4x2048 x h (ix2 r s) = x (ix4 0 0 r s) :=
  shapeCast_apply x h (ix2 r s) (ix4 0 0 r s) (by
    rw [Shape.rowMajor_val_four, Shape.rowMajor_val_two]
    show ((0 * 1 + 0) * 4 + r.val) * 2048 + s.val = r.val * 2048 + s.val; omega)

/-- The offsets of a whole block are zero. -/
theorem zero4 : (![0, 0, 0, 0] : Fin 4 → Nat) = fun _ => 0 := funext fun a => by fin_cases a <;> rfl
/-- The offsets of a whole block are zero. -/
theorem zero3 : (![0, 0, 0] : Fin 3 → Nat) = fun _ => 0 := funext fun a => by fin_cases a <;> rfl
/-- The offsets of a whole block are zero. -/
theorem zero2 : (![0, 0] : Fin 2 → Nat) = fun _ => 0 := funext fun a => by fin_cases a <;> rfl

/-- What the second kernel leaves in its output block, from what its input blocks hold: the reference's four heads. -/
theorem out_at {x0 x1 : FVec Ideal S1x1x256x2048 .bf16} {x2 : FVec Ideal S1x1x256x2048 .f32} {x3 x4 : FVec Ideal S1x1x4x2048 .f32}
    {x5 : FVec Ideal S64x256 .f32} {x6 : FVec Ideal S256x64 .f32} {K V Q : Fin 4 → Rows} {T A : Fin 4 → Gate} {W0 : Mat0} {W1 : Mat1}
    (E : Fin 4 → Gate)
    (hk : ∀ g d s, x0 (ix4 0 0 (at4 g d) s) = K g s d) (hv : ∀ g d s, x1 (ix4 0 0 (at4 g d) s) = V g s d)
    (hq : ∀ g d s, x2 (ix4 0 0 (at4 g d) s) = Q g s d) (ht : ∀ g s, x3 (ix4 0 0 g s) = T g s) (ha : ∀ g s, x4 (ix4 0 0 g s) = A g s)
    (h0 : Holds0 x5 W0) (h1 : Holds1 x6 W1) (s : Fin 2048) (g : Fin 4) (d : Fin 64) :
    out1_7 (F := Ideal) x0 x1 x2 x3 x4 x5 x6 (ix3 0 s (at4 g d))
      = Spec.head (K g) (V g) (fun s => T g s * w32 0x3C23D70A#32) (A g) (E g) W0 W1 (Q g) s d := by
  rw [Head.out1_7_eq, View.canon_unit_zero zero3, View.ld_unit_zero zero4, View.ld_unit_zero zero4, View.ld_unit_zero zero4,
    View.ld_unit_zero zero4, View.ld_unit_zero zero4, View.ld_unit_zero zero2, View.ld_unit_zero zero2]
  refine block_at E (fun g d s => ?_) (fun g d s => ?_) (fun g d s => (cast256 x2 _ _ _).trans (hq g d s))
    (fun g s => (cast4 x3 _ _ _).trans (ht g s)) (fun g s => (cast4 x4 _ _ _).trans (ha g s)) h0 h1 s g d
  · exact (cast256 x0 _ _ _).trans (hk g d s)
  · exact (cast256 x1 _ _ _).trans (hv g d s)

end Cert.Proof.BlockRead
-- ==== Proof.Arrays1.lean ====
/- The array the second kernel leaves: at every batch, position and channel the reference's head, from what its input
   arrays hold. -/
module

public import proofs.«01_k».proof.Proof.Arrays0
public import proofs.«01_k».proof.Proof.BlockRead

@[expose] public section

noncomputable section

namespace Cert.Proof.Arrays1

open Idealize.ShloMosaic Idealize.ShloMosaic.ValueIdx Idealize.ShloMosaic.TcCoe Cert.KernelIdeal Cert.KernelIdeal.Gen
open Idealize.ShloMosaic.Pipeline (Dat Cfg Window)
open Cert.Proof
open Cert.Proof.Spec (w32 Rows Gate Mat0 Mat1)
open Cert.Proof.Arrays0 (hd ch)
open Cert.Proof.BlockRead (at4)

/-! ## The grid: point `t` is batch `t / 4` and the four heads from `4 * (t % 4)` -/

/-- The grid has 32 points. -/
theorem lt32 (t : Fin cfg1.N) : t.val < 32 := lt_of_lt_of_eq t.isLt (by decide +kernel)
/-- The batch of point `t`. -/
def bat (t : Fin cfg1.N) : Fin 8 := ⟨t.val / 4, by have := lt32 t; omega⟩
/-- The group of heads of point `t`. -/
def grp (t : Fin cfg1.N) : Fin 4 := ⟨t.val % 4, by omega⟩
/-- The point of batch `b` and group `p`. -/
def point (b : Fin 8) (p : Fin 4) : Fin cfg1.N := ⟨b.val * 4 + p.val, lt_of_lt_of_eq (by omega : _ < 32) (by decide +kernel)⟩
theorem bat_point (b : Fin 8) (p : Fin 4) : bat (point b p) = b := Fin.ext (by show (b.val * 4 + p.val) / 4 = b.val; omega)
theorem grp_point (b : Fin 8) (p : Fin 4) : grp (point b p) = p := Fin.ext (by show (b.val * 4 + p.val) % 4 = p.val; omega)

/-- Head `g` of group `p`. -/
def quad (p g : Fin 4) : Fin 16 := ⟨p.val * 4 + g.val, by omega⟩
/-- Channel `r` of group `p` among the 1024. -/
def wideCh (p : Fin 4) (r : Fin 256) : Fin 1024 := ⟨p.val * 256 + r.val, by omega⟩
theorem wideCh_at4 (p g : Fin 4) (d : Fin 64) : wideCh p (at4 g d) = Spec.chan (quad p g) d := Fin.ext (by
  show p.val * 256 + (g.val * 64 + d.val) = (p.val * 4 + g.val) * 64 + d.val; omega)

/-- What holds at every head's rows of a group holds at every row. -/
theorem rowCases {P : Fin 256 → Prop} (h : ∀ g d, P (at4 g d)) (r : Fin 256) : P r := by
  have hr : r = at4 ⟨r.val / 64, by omega⟩ ⟨r.val % 64, by omega⟩ := Fin.ext (by show r.val = r.val / 64 * 64 + r.val % 64; omega)
  rw [hr]; exact h _ _
/-- What holds at every group's channels holds at every channel. -/
theorem wideCases {P : Fin 1024 → Prop} (h : ∀ p r, P (wideCh p r)) (e : Fin 1024) : P e := by
  have he : e = wideCh ⟨e.val / 256, by omega⟩ ⟨e.val % 256, by omega⟩ := Fin.ext (by show e.val = e.val / 256 * 256 + e.val % 256; omega)
  rw [he]; exact h _ _

/-- The block indices of the five stacks, of the two weight arrays and of the output. -/
theorem idxI : ∀ t : Fin cfg1.N, (win1_0.index t = ![t.val / 4, t.val % 4, 0, 0]) ∧ (win1_1.index t = ![t.val / 4, t.val % 4, 0, 0])
    ∧ (win1_2.index t = ![t.val / 4, t.val % 4, 0, 0]) ∧ (win1_3.index t = ![t.val / 4, t.val % 4, 0, 0]) ∧ (win1_4.index t = ![t.val / 4, t.val % 4, 0, 0]) :=
  (by decide +kernel : ∀ t : Fin grid1.N, _)
theorem idxW : ∀ t : Fin cfg1.N, (∀ a, win1_5.index t a = 0) ∧ (∀ a, win1_6.index t a = 0) :=
  (by decide +kernel : ∀ t : Fin grid1.N, _)
theorem idxO : ∀ t : Fin cfg1.N, win1_7.index t = ![t.val / 4, 0, t.val % 4] :=
  (by decide +kernel : ∀ t : Fin grid1.N, _)

section
variable (V : (c : Dev nD) → (b : Ref sig .tc) → Buf (Elt Ideal) ((c : Thread nD τ).loc b)) (c : Dev nD) (t : Fin cfg1.N)

/-- A place in an input block of `n` rows, given the block's index. -/
theorem place {n : Nat} {i : Fin 4 → Nat} (hi : i = ![t.val / 4, t.val % 4, 0, 0]) (r : Fin n) (s : Fin 2048) :
    i 0 * 1 + 1 * 0 = (bat t).val ∧ i 1 * 1 + 1 * 0 = (grp t).val ∧ i 2 * n + 1 * r.val = r.val ∧ i 3 * 2048 + 1 * s.val = s.val := by
  subst hi
  refine ⟨?_, ?_, ?_, ?_⟩
  · show t.val / 4 * 1 + 1 * 0 = t.val / 4; omega
  · show t.val % 4 * 1 + 1 * 0 = t.val % 4; omega
  · show 0 * n + 1 * r.val = r.val; omega
  · show 0 * 2048 + 1 * s.val = s.val; omega

/-- An index placed by its four coordinates. -/
theorem ext4 {n₀ n₁ n₂ n₃ : Nat} {x y : (⟨4, ![n₀, n₁, n₂, n₃]⟩ : Shape).Idx}
    (h : (x 0).val = (y 0).val ∧ (x 1).val = (y 1).val ∧ (x 2).val = (y 2).val ∧ (x 3).val = (y 3).val) : x = y :=
  funext fun a => Fin.ext (match a with | ⟨0, _⟩ => h.1 | ⟨1, _⟩ => h.2.1 | ⟨2, _⟩ => h.2.2.1 | ⟨3, _⟩ => h.2.2.2)

/-- The keys' block, -/
theorem k_at (r : Fin 256) (s : Fin 2048) : iblk1 V c 0 t (ix4 0 0 r s) = V c main_v4 (ix4 (bat t) (grp t) r s) :=
  congrArg (V c main_v4) (ext4 (place t (idxI t).1 r s))
/-- the values', -/
theorem v_at (r : Fin 256) (s : Fin 2048) : iblk1 V c 1 t (ix4 0 0 r s) = V c main_v5 (ix4 (bat t) (grp t) r s) :=
  congrArg (V c main_v5) (ext4 (place t (idxI t).2.1 r s))
/-- the queries', -/
theorem q_at (r : Fin 256) (s : Fin 2048) : iblk1 V c 2 t (ix4 0 0 r s) = V c main_v6 (ix4 (bat t) (grp t) r s) :=
  congrArg (V c main_v6) (ext4 (place t (idxI t).2.2.1 r s))
/-- the two gates': read at their batch and group. -/
theorem g3_at (g : Fin 4) (s : Fin 2048) : iblk1 V c 3 t (ix4 0 0 g s) = V c main_v8 (ix4 (bat t) (grp t) g s) :=
  congrArg (V c main_v8) (ext4 (place t (idxI t).2.2.2.1 g s))
theorem g4_at (g : Fin 4) (s : Fin 2048) : iblk1 V c 4 t (ix4 0 0 g s) = V c main_v7 (ix4 (bat t) (grp t) g s) :=
  congrArg (V c main_v7) (ext4 (place t (idxI t).2.2.2.2 g s))

/-- The first layer's block is the whole array, -/
theorem w0_eq : (iblk1 V c 5 t : FVec Ideal S64x256 .f32) = V c main_arg4 := funext fun y => by
  refine congrArg (V c main_arg4) (funext fun a => Fin.ext ?_)
  have h := (idxW t).1 a
  show win1_5.index t a * _ + 1 * (y a).val = (y a).val
  rw [h]; omega
/-- and the second layer's too. -/
theorem w1_eq : (iblk1 V c 6 t : FVec Ideal S256x64 .f32) = V c main_arg5 := funext fun y => by
  refine congrArg (V c main_arg5) (funext fun a => Fin.ext ?_)
  have h := (idxW t).2 a
  show win1_6.index t a * _ + 1 * (y a).val = (y a).val
  rw [h]; omega

/-- Where the output block lies. -/
theorem emb7 (s : Fin 2048) (r : Fin 256) : ((cfg1.win 7).blk t).view.emb (ix3 0 s r) = ix3 (bat t) s (wideCh (grp t) r) :=
  funext fun a => Fin.ext (by
    have h := idxO t
    match a with
    | ⟨0, _⟩ => show win1_7.index t (0 : Fin 3) * 1 + 1 * 0 = t.val / 4; rw [h]; show t.val / 4 * 1 + 1 * 0 = _; omega
    | ⟨1, _⟩ => show win1_7.index t (1 : Fin 3) * 2048 + 1 * s.val = s.val; rw [h]; show 0 * 2048 + 1 * s.val = _; omega
    | ⟨2, _⟩ => show win1_7.index t (2 : Fin 3) * 256 + 1 * r.val = t.val % 4 * 256 + r.val; rw [h]; show t.val % 4 * 256 + 1 * r.val = _; omega)
end

/-! ## The array -/

/-- The output array of the heads' keys, values, gates, momentum gates, weights and queries. -/
def heads (K V : Fin 8 → Fin 16 → Rows) (T A E : Fin 8 → Fin 16 → Gate) (W0 : Mat0) (W1 : Mat1) (Q : Fin 8 → Fin 16 → Rows) : S8x2048x1024.Idx → EReal :=
  fun i => Spec.head (K (i 0) (hd (i 2))) (V (i 0) (hd (i 2))) (fun s => T (i 0) (hd (i 2)) s * w32 0x3C23D70A#32) (A (i 0) (hd (i 2)))
    (E (i 0) (hd (i 2))) W0 W1 (Q (i 0) (hd (i 2))) (i 1) (ch (i 2))

/-- The output array at a channel of a head. -/
theorem heads_at (K V : Fin 8 → Fin 16 → Rows) (T A E : Fin 8 → Fin 16 → Gate) (W0 : Mat0) (W1 : Mat1) (Q : Fin 8 → Fin 16 → Rows)
    (b : Fin 8) (s : Fin 2048) (h : Fin 16) (d : Fin 64) :
    heads K V T A E W0 W1 Q (ix3 b s (Spec.chan h d))
      = Spec.head (K b h) (V b h) (fun s => T b h s * w32 0x3C23D70A#32) (A b h) (E b h) W0 W1 (Q b h) s d :=
  congrArg₂ (fun h d => Spec.head (K b h) (V b h) (fun s => T b h s * w32 0x3C23D70A#32) (A b h) (E b h) W0 W1 (Q b h) s d)
    (Arrays0.hd_chan h d) (Arrays0.ch_chan h d)

section
variable (V : (c : Dev nD) → (b : Ref sig .tc) → Buf (Elt Ideal) ((c : Thread nD τ).loc b)) (c : Dev nD)
variable {K U Q : Fin 8 → Fin 16 → Rows} {T A : Fin 8 → Fin 16 → Gate} {W0 : Mat0} {W1 : Mat1}

/-- What holds at every position and row of a block holds at every index. -/
theorem blockCases {P : S1x2048x256.Idx → Prop} (h : ∀ s r, P (ix3 0 s r)) (y) : P y := by
  have hy : y = ix3 0 (y 1) (y 2) := by
    funext a
    match a with
    | ⟨0, _⟩ => exact Fin.ext (Nat.lt_one_iff.1 (y 0).isLt)
    | ⟨1, _⟩ => rfl
    | ⟨2, _⟩ => rfl
  rw [hy]; exact h _ _
/-- What holds at every batch, position and channel holds at every index. -/
theorem arrayCases {P : S8x2048x1024.Idx → Prop} (h : ∀ b s e, P (ix3 b s e)) (i) : P i := by
  have hi : i = ix3 (i 0) (i 1) (i 2) := by
    funext a
    match a with
    | ⟨0, _⟩ => rfl
    | ⟨1, _⟩ => rfl
    | ⟨2, _⟩ => rfl
  rw [hi]; exact h _ _ _

/-- Every index of the array is in the block of its batch and group. -/
theorem covered (i : S8x2048x1024.Idx) : ∃ t : Fin cfg1.N, (cfg1.win 7).flush t = true ∧ i ∈ ((cfg1.win 7).blk t).view.set := by
  refine arrayCases (P := fun i => ∃ t : Fin cfg1.N, (cfg1.win 7).flush t = true ∧ i ∈ ((cfg1.win 7).blk t).view.set) (fun b s e => ?_) i
  refine wideCases (P := fun e => ∃ t : Fin cfg1.N, (cfg1.win 7).flush t = true ∧ ix3 b s e ∈ ((cfg1.win 7).blk t).view.set) (fun p r => ?_) e
  refine ⟨point b p, flush1_7 _, ?_⟩
  have h := View.emb_mem_set ((cfg1.win 7).blk (point b p)).view (ix3 0 s r)
  rw [emb7, bat_point, grp_point] at h
  exact h

/-- THE OUTPUT the second kernel leaves. -/
theorem output (E : Fin 8 → Fin 16 → Gate)
    (hk : ∀ b p g d s, V c main_v4 (ix4 b p (at4 g d) s) = K b (quad p g) s d)
    (hv : ∀ b p g d s, V c main_v5 (ix4 b p (at4 g d) s) = U b (quad p g) s d)
    (hq : ∀ b p g d s, V c main_v6 (ix4 b p (at4 g d) s) = Q b (quad p g) s d)
    (ht : ∀ b p g s, V c main_v8 (ix4 b p g s) = T b (quad p g) s)
    (ha : ∀ b p g s, V c main_v7 (ix4 b p g s) = A b (quad p g) s)
    (h0 : ∀ i j, V c main_arg4 (ix2 i j) = W0 i j) (h1 : ∀ j i, V c main_arg5 (ix2 j i) = W1 j i) :
    (dat1 V c).arrAt 7 cfg1.N = heads K U T A E W0 W1 Q := by
  refine (dat1 V c).arrAt_eq_of_cover 7 _ (fun t _ => funext (blockCases fun s r => ?_)) covered
  show (cfg1.win 7).cut (grid1.coords t) ((dat1 V c).after 7 t) (ix3 0 s r) = heads K U T A E W0 W1 Q (((cfg1.win 7).blk t).view.emb (ix3 0 s r))
  rw [after1_7, emb7, w0_eq, w1_eq]
  refine rowCases (P := fun r => out1_7 (F := Ideal) _ _ _ _ _ _ _ (ix3 0 s r) = heads K U T A E W0 W1 Q (ix3 (bat t) s (wideCh (grp t) r))) (fun g d => ?_) r
  rw [wideCh_at4, heads_at]
  exact BlockRead.out_at (K := fun g => K (bat t) (quad (grp t) g)) (V := fun g => U (bat t) (quad (grp t) g)) (Q := fun g => Q (bat t) (quad (grp t) g))
    (T := fun g => T (bat t) (quad (grp t) g)) (A := fun g => A (bat t) (quad (grp t) g)) (fun g => E (bat t) (quad (grp t) g))
    (fun g d s => (k_at V c t _ s).trans (hk _ _ g d s)) (fun g d s => (v_at V c t _ s).trans (hv _ _ g d s))
    (fun g d s => (q_at V c t _ s).trans (hq _ _ g d s)) (fun g s => (g3_at V c t g s).trans (ht _ _ g s))
    (fun g s => (g4_at V c t g s).trans (ha _ _ g s)) h0 h1 s g d
end

end Cert.Proof.Arrays1
-- ==== Proof.Host.lean ====
/- What the host steps around the two kernels leave: the two gates' weights and biases side by side before the first, its
   five outputs cut into groups of four heads before the second. -/
module

public import proofs.«01_k».proof.Proof.Arrays1

@[expose] public section

noncomputable section

namespace Cert.Proof.Host

open Idealize.ShloMosaic Idealize.ShloMosaic.ValueIdx Idealize.ShloMosaic.TcCoe Cert.KernelIdeal Cert.KernelIdeal.Gen
open Cert.Proof
open Cert.Proof.Arrays1 (quad wideCh)
open Cert.Proof.BlockRead (at4)
open Cert.Proof.Arrays0 (X W)

section
variable {F : FTy → Type} [FloatOps F]
variable (m : (ℓ : Loc nD τ sig) → Buf (Elt F) ℓ) (ρ : Dev nD → PrngReg) (c : Dev nD)

/-- The gate weights side by side. -/
theorem v0 : V1 m ρ c main_v0 = concatenate S1024x32 1 [⟨S1024x16, m ((c : Thread nD τ).loc main_arg10)⟩, ⟨S1024x16, m ((c : Thread nD τ).loc main_arg12)⟩]
    concatenates_S1024x16_S1024x16_S1024x32_d1 := by
  show StableHlo.after hostOps0 (W0 m ρ c) (Proc.devRef .tc main_v0) = _
  after_results
/-- The gate biases side by side, as a row. -/
theorem v2 : V1 m ρ c main_v2 = shapeCast S1x32 (concatenate S32 0 [⟨S16, m ((c : Thread nD τ).loc main_arg11)⟩, ⟨S16, m ((c : Thread nD τ).loc main_arg13)⟩]
    concatenates_S16_S16_S32_d0) shapeCasts_S32_S1x32 := by
  show StableHlo.after hostOps0 (W0 m ρ c) (Proc.devRef .tc main_v2) = _
  after_results
  rfl

/-- The keys' array in groups, -/
theorem v4 : V3 m ρ c main_v4 = shapeCast S8x4x256x2048 ((dat0 (V1 m ρ) c).arrAt 6 cfg0.N) shapeCasts_S8x1024x2048_S8x4x256x2048 := by
  show StableHlo.after hostOps1 (W2 m ρ c) (Proc.devRef .tc main_v4) = _
  rw [← W2_arr m ρ c 6]
  after_results
  rfl
/-- the values', -/
theorem v5 : V3 m ρ c main_v5 = shapeCast S8x4x256x2048 ((dat0 (V1 m ρ) c).arrAt 7 cfg0.N) shapeCasts_S8x1024x2048_S8x4x256x2048 := by
  show StableHlo.after hostOps1 (W2 m ρ c) (Proc.devRef .tc main_v5) = _
  rw [← W2_arr m ρ c 7]
  after_results
  rfl
/-- the queries', -/
theorem v6 : V3 m ρ c main_v6 = shapeCast S8x4x256x2048 ((dat0 (V1 m ρ) c).arrAt 8 cfg0.N) shapeCasts_S8x1024x2048_S8x4x256x2048 := by
  show StableHlo.after hostOps1 (W2 m ρ c) (Proc.devRef .tc main_v6) = _
  rw [← W2_arr m ρ c 8]
  after_results
  rfl
/-- the first gates', -/
theorem v7 : V3 m ρ c main_v7 = shapeCast S8x4x4x2048 ((dat0 (V1 m ρ) c).arrAt 9 cfg0.N) shapeCasts_S8x16x2048_S8x4x4x2048 := by
  show StableHlo.after hostOps1 (W2 m ρ c) (Proc.devRef .tc main_v7) = _
  rw [← W2_arr m ρ c 9]
  after_results
  rfl
/-- and the second gates'. -/
theorem v8 : V3 m ρ c main_v8 = shapeCast S8x4x4x2048 ((dat0 (V1 m ρ) c).arrAt 10 cfg0.N) shapeCasts_S8x16x2048_S8x4x4x2048 := by
  show StableHlo.after hostOps1 (W2 m ρ c) (Proc.devRef .tc main_v8) = _
  rw [← W2_arr m ρ c 10]
  after_results
  rfl
end

/-- A stack of 1024 channels in groups of 256, read at a head's channel. -/
theorem cut256 {α : Type} (x : S8x1024x2048.Idx → α) (h : S8x1024x2048.ShapeCasts S8x4x256x2048) (b : Fin 8) (p g : Fin 4) (d : Fin 64) (s : Fin 2048) :
    shapeCast S8x4x256x2048 x h (ix4 b p (at4 g d) s) = x (ix3 b (Spec.chan (quad p g) d) s) :=
  shapeCast_apply x h _ _ (by
    rw [Shape.rowMajor_val_four, Shape.rowMajor_val_three]
    show (b.val * 1024 + ((p.val * 4 + g.val) * 64 + d.val)) * 2048 + s.val = ((b.val * 4 + p.val) * 256 + (g.val * 64 + d.val)) * 2048 + s.val
    ring)
/-- A stack of 16 gates in groups of four. -/
theorem cut4 {α : Type} (x : S8x16x2048.Idx → α) (h : S8x16x2048.ShapeCasts S8x4x4x2048) (b : Fin 8) (p g : Fin 4) (s : Fin 2048) :
    shapeCast S8x4x4x2048 x h (ix4 b p g s) = x (ix3 b (quad p g) s) :=
  shapeCast_apply x h _ _ (by
    rw [Shape.rowMajor_val_four, Shape.rowMajor_val_three]
    show (b.val * 16 + (p.val * 4 + g.val)) * 2048 + s.val = ((b.val * 4 + p.val) * 4 + g.val) * 2048 + s.val
    ring)

/-- Two matrices side by side, read in the first, -/
theorem left_at {α : Type} (x y : S1024x16.Idx → α) (h) (c : Fin 1024) (e : Fin 16) (r : Fin 32) (hr : r.val = 0 + e.val) :
    concatenate S1024x32 1 [⟨S1024x16, x⟩, ⟨S1024x16, y⟩] h (ix2 c r) = x (ix2 c e) :=
  concatenate_apply_piece (t := S1024x32) 1 _ h _ 0 Nat.zero_lt_two S1024x16 x rfl rfl 0 rfl (ix2 c e)
    (fun b hb => by fin_cases b; exacts [rfl, absurd rfl hb]) hr.symm
/-- and in the second. -/
theorem right_at {α : Type} (x y : S1024x16.Idx → α) (h) (c : Fin 1024) (e : Fin 16) (r : Fin 32) (hr : r.val = 16 + e.val) :
    concatenate S1024x32 1 [⟨S1024x16, x⟩, ⟨S1024x16, y⟩] h (ix2 c r) = y (ix2 c e) :=
  concatenate_apply_piece (t := S1024x32) 1 _ h _ 1 Nat.one_lt_two S1024x16 y rfl rfl 16 rfl (ix2 c e)
    (fun b hb => by fin_cases b; exacts [rfl, absurd rfl hb]) hr.symm
/-- Two rows one after the other as one row, read in the first, -/
theorem first_at {α : Type} (x y : S16.Idx → α) (h) (e : Fin 16) (r : Fin 32) (hr : r.val = 0 + e.val) :
    shapeCast S1x32 (concatenate S32 0 [⟨S16, x⟩, ⟨S16, y⟩] h) shapeCasts_S32_S1x32 (ix2 0 r) = x (ix1 e) :=
  (shapeCast_apply _ _ _ (ix1 r) (by
    rw [Shape.rowMajor_val_one, Shape.rowMajor_val_two]; show r.val = 0 * 32 + r.val; omega)).trans
  (concatenate_apply_piece (t := S32) 0 _ h _ 0 Nat.zero_lt_two S16 x rfl rfl 0 rfl (ix1 e)
    (fun b hb => by fin_cases b; exact absurd rfl hb) hr.symm)
/-- and in the second. -/
theorem second_at {α : Type} (x y : S16.Idx → α) (h) (e : Fin 16) (r : Fin 32) (hr : r.val = 16 + e.val) :
    shapeCast S1x32 (concatenate S32 0 [⟨S16, x⟩, ⟨S16, y⟩] h) shapeCasts_S32_S1x32 (ix2 0 r) = y (ix1 e) :=
  (shapeCast_apply _ _ _ (ix1 r) (by
    rw [Shape.rowMajor_val_one, Shape.rowMajor_val_two]; show r.val = 0 * 32 + r.val; omega)).trans
  (concatenate_apply_piece (t := S32) 0 _ h _ 1 Nat.one_lt_two S16 y rfl rfl 16 rfl (ix1 e)
    (fun b hb => by fin_cases b; exact absurd rfl hb) hr.symm)

/-! ## The kernel's result -/

section
variable (m : (ℓ : Loc nD τ sig) → Buf (Elt Ideal) ℓ) (ρ : Dev nD → PrngReg) (c : Dev nD)

/-- An argument at the launch. -/
abbrev arg (a : Ref sig .tc) : Buf (Elt Ideal) ((c : Thread nD τ).loc a) := m ((c : Thread nD τ).loc a)
/-- A gate's biases. -/
def B (w : FVec Ideal S16 .f32) : Fin 16 → EReal := fun h => w (ix1 h)

/-- The first kernel's gates are those of the first gate weights, -/
theorem alphas_at (b : Fin 8) (h : Fin 16) (s : Fin 2048) : (dat0 (V1 m ρ) c).arrAt 9 cfg0.N (ix3 b h s)
    = Spec.gate (X (arg m c main_arg0)) (W (arg m c main_arg10)) (B (arg m c main_arg11)) b h s := by
  rw [Arrays0.alphas, v0, v2, show V1 m ρ c main_arg0 = _ from W1_args m ρ c main_arg0 (by decide)]
  exact congrArg₂ (fun w v => Spec.gate (X (arg m c main_arg0)) w v b h s)
    (funext fun k => funext fun e => left_at _ _ _ k e _ rfl) (funext fun e => first_at _ _ _ e _ rfl)
/-- and of the second. -/
theorem thetas_at (b : Fin 8) (h : Fin 16) (s : Fin 2048) : (dat0 (V1 m ρ) c).arrAt 10 cfg0.N (ix3 b h s)
    = Spec.gate (X (arg m c main_arg0)) (W (arg m c main_arg12)) (B (arg m c main_arg13)) b h s := by
  rw [Arrays0.thetas, v0, v2, show V1 m ρ c main_arg0 = _ from W1_args m ρ c main_arg0 (by decide)]
  exact congrArg₂ (fun w v => Spec.gate (X (arg m c main_arg0)) w v b h s)
    (funext fun k => funext fun e => right_at _ _ _ k e _ rfl) (funext fun e => second_at _ _ _ e _ rfl)

/-- THE KERNEL'S RESULT: every head of the launch arguments' projections and gates, whatever the momentum gates. -/
theorem result (E : Fin 8 → Fin 16 → Spec.Gate) : W4 m ρ c (Proc.devRef .tc main_v9)
    = Arrays1.heads (Spec.nproj (X (arg m c main_arg0)) (W (arg m c main_arg1))) (Spec.proj (X (arg m c main_arg0)) (W (arg m c main_arg2)))
        (Spec.gate (X (arg m c main_arg0)) (W (arg m c main_arg12)) (B (arg m c main_arg13)))
        (Spec.gate (X (arg m c main_arg0)) (W (arg m c main_arg10)) (B (arg m c main_arg11))) E
        (fun i j => arg m c main_arg4 (ix2 i j)) (fun j i => arg m c main_arg5 (ix2 j i)) (Spec.nproj (X (arg m c main_arg0)) (W (arg m c main_arg3))) := by
  refine (W4_arr m ρ c 7).trans (Arrays1.output (V3 m ρ) c E (fun b p g d s => ?_) (fun b p g d s => ?_) (fun b p g d s => ?_)
    (fun b p g s => ?_) (fun b p g s => ?_)
    (fun i j => congrFun (W3_args m ρ c main_arg4 (by decide)) (ix2 i j)) (fun j i => congrFun (W3_args m ρ c main_arg5 (by decide)) (ix2 j i)))
  · rw [v4, cut256, Arrays0.keys, Arrays0.normed_at, show V1 m ρ c main_arg0 = _ from W1_args m ρ c main_arg0 (by decide),
      show V1 m ρ c main_arg1 = _ from W1_args m ρ c main_arg1 (by decide)]
  · rw [v5, cut256, Arrays0.values, Arrays0.plain_at, show V1 m ρ c main_arg0 = _ from W1_args m ρ c main_arg0 (by decide),
      show V1 m ρ c main_arg2 = _ from W1_args m ρ c main_arg2 (by decide)]
  · rw [v6, cut256, Arrays0.queries, Arrays0.normed_at, show V1 m ρ c main_arg0 = _ from W1_args m ρ c main_arg0 (by decide),
      show V1 m ρ c main_arg3 = _ from W1_args m ρ c main_arg3 (by decide)]
  · rw [v8, cut4, thetas_at]
  · rw [v7, cut4, alphas_at]
end

end Cert.Proof.Host
-- ==== Proof.Ones.lean ====
/- What the precondition says of the arguments: the four normalisation weights are one. -/
module

public import proofs.«01_k».proof.Defs
public import proofs.«01_k».proof.Proof.Algebra

@[expose] public section

noncomputable section

namespace Cert.Proof.Ones

open Idealize.ShloMosaic Idealize.ShloMosaic.TcCoe

/-- The precondition's own shape relations: a scalar goes to either length. -/
theorem facts : Cert.Pre_norm_weights_one.Facts := ⟨by decide, by decide⟩

/-- An array that compares equal to the word of one everywhere is one everywhere. -/
theorem one_of_eq {s : Shape} (x : FVec Ideal s .f32) (h : Cert.Pre_norm_weights_one.S_.BroadcastsInDim s ![])
    (e : cmpf .oeq x (broadcastInDim s ![] h (constant Cert.Pre_norm_weights_one.S_ .f32 0x3F800000#32)) = fun _ => 1#1) (i : s.Idx) :
    x i = 1 := by
  have hi : BitVec.ofBool (decide (x i = Spec.w32 0x3F800000#32)) = 1#1 := congrFun e i
  rw [Algebra.w32_one] at hi
  by_contra hx
  rw [decide_eq_false hx] at hi
  exact absurd hi (by decide)

section
variable {m : (ℓ : Loc Cert.KernelIdeal.nD Cert.KernelIdeal.τ Cert.KernelIdeal.sig) → Buf (Elt Ideal) ℓ}

/-- Under the precondition the four normalisation weights are one on every device. -/
theorem ones (h : Cert.Pre_KernelIdeal_norm_weights_one (hPre_norm_weights_one := facts) m) (c : Dev Cert.KernelIdeal.nD) :
    (∀ i, m ((c.tc : Thread Cert.KernelIdeal.nD Cert.KernelIdeal.τ).loc Cert.KernelIdeal.main_arg6) i = (1 : EReal))
    ∧ (∀ i, m ((c.tc : Thread Cert.KernelIdeal.nD Cert.KernelIdeal.τ).loc Cert.KernelIdeal.main_arg7) i = (1 : EReal))
    ∧ (∀ i, m ((c.tc : Thread Cert.KernelIdeal.nD Cert.KernelIdeal.τ).loc Cert.KernelIdeal.main_arg8) i = (1 : EReal))
    ∧ (∀ i, m ((c.tc : Thread Cert.KernelIdeal.nD Cert.KernelIdeal.τ).loc Cert.KernelIdeal.main_arg9) i = (1 : EReal)) :=
  ⟨one_of_eq _ facts.1 (h c).1, one_of_eq _ facts.1 (h c).2.1, one_of_eq _ facts.2 (h c).2.2.1, one_of_eq _ facts.2 (h c).2.2.2⟩
end

end Cert.Proof.Ones
-- ==== Proof.RefHead.lean ====
/- The reference read at an index, one head at a time: with a head's keys, values, queries and gates named, each stage of
   the reference is the formula of `Spec` at that head. -/
module

public import proofs.«01_k».proof.Proof.Gen.ReferenceIdeal.Read
public import proofs.«01_k».proof.Proof.Algebra
public import Idealize.ShloMosaic.Lib.ValueIdx

@[expose] public section

noncomputable section

namespace Cert.Proof.RefHead

open Idealize.ShloMosaic Idealize.ShloMosaic.ValueIdx Cert.ReferenceIdeal Cert.ReferenceIdeal.Gen Cert.ReferenceIdeal.Read
open Cert.Proof.Spec (w32 Rows Hid Gate Mat0 Mat1)
open Cert.Proof
open scoped BigOperators

/-- An argument array's contents on the extended reals. -/
abbrev Arr (s : Shape) : Type := (⟨s, .f32⟩ : BufTy).Contents (Elt Ideal)

variable (x0 : Arr S8x2048x1024) (x1 x2 x3 : Arr S1024x1024) (x4 : Arr S64x256) (x5 : Arr S256x64) (x6 x7 : Arr S64) (x8 x9 : Arr S1024)
  (x10 : Arr S1024x16) (x11 : Arr S16) (x12 : Arr S1024x16) (x13 : Arr S16) (x14 : Arr S1024x16) (x15 : Arr S16)

/-- The keys of head-and-batch row `r`. -/
def K (r : Fin 128) : Rows := fun s d => val_main_v33 (F := Ideal) x0 x1 x6 x8 (ix3 r s d)
/-- Its values. -/
def V (r : Fin 128) : Rows := fun s d => val_main_v37 (F := Ideal) x0 x2 x8 (ix3 r s d)
/-- Its queries. -/
def Q (r : Fin 128) : Rows := fun s d => val_main_v215 (F := Ideal) x0 x3 x7 x9 (ix3 r s d)
/-- Its learning rates. -/
def T (r : Fin 128) : Gate := fun s => val_main_v73 (F := Ideal) x0 x8 x12 x13 (ix2 r s)
/-- Its forgetting gates. -/
def A (r : Fin 128) : Gate := fun s => val_main_v71 (F := Ideal) x0 x8 x10 x11 (ix2 r s)
/-- Its momentum gates. -/
def E (r : Fin 128) : Gate := fun s => val_main_v75 (F := Ideal) x0 x8 x14 x15 (ix2 r s)
/-- The first layer's launch weights. -/
def M0 : Mat0 := fun i j => x4 (ix2 i j)
/-- The second layer's launch weights. -/
def M1 : Mat1 := fun j i => x5 (ix2 j i)

/-- The first layer on the keys. -/
theorem s76 (i : S128x2048x256.Idx) :
    val_main_v76 (F := Ideal) x0 x1 x4 x6 x8 i = Spec.lin0 (M0 x4) (K x0 x1 x6 x8 (i 0)) (i 1) (i 2) := by
  rw [val_main_v76_apply]
  refine Finset.sum_congr rfl fun k _ => ?_
  rw [val_main_v0_apply]
  exact congrArg₂ (· * ·) (congrArg _ (funext fun a => by fin_cases a <;> rfl)) (congrArg _ (funext fun a => by fin_cases a <;> rfl))

/-- The GELU of the keys' hidden activations. -/
theorem s84 (i : S128x2048x256.Idx) :
    val_main_v84 (F := Ideal) x0 x1 x4 x6 x8 i = Spec.gelu (Spec.lin0 (M0 x4) (K x0 x1 x6 x8 (i 0)) (i 1) (i 2)) := by
  have h : val_main_v84 (F := Ideal) x0 x1 x4 x6 x8 i = Spec.gelu (val_main_v76 (F := Ideal) x0 x1 x4 x6 x8 i) := rfl
  rw [h, s76]

/-- A sum from the zero word is the sum, term by term. -/
theorem init_sum {n : Nat} {f g : Fin n → EReal} (h : ∀ k, f k = g k) : w32 0x00000000#32 + ∑ k, f k = ∑ k, g k := by
  rw [Algebra.w32_zero, zero_add]; exact Finset.sum_congr rfl fun k _ => h k

/-- A sum over a flattened matrix is the double sum over its rows and columns. -/
theorem flat_sum {m n : Nat} (g : Fin (m * n) → EReal) (f : Fin m → Fin n → EReal)
    (h : ∀ (i : Fin m) (j : Fin n) (k : Fin (m * n)), k.val = i.val * n + j.val → g k = f i j) : ∑ k, g k = ∑ i, ∑ j, f i j := by
  rw [← finProdFinEquiv.sum_comp, Fintype.sum_prod_type]
  exact Finset.sum_congr rfl fun i _ => Finset.sum_congr rfl fun j _ => h i j _ (by
    simp [finProdFinEquiv, mul_comm, add_comm])

/-- The memory's output on the keys. -/
theorem s85 (i : S128x2048x64.Idx) :
    val_main_v85 (F := Ideal) x0 x1 x4 x5 x6 x8 i = Spec.out1 (M0 x4) (M1 x5) (K x0 x1 x6 x8 (i 0)) (i 1) (i 2) := by
  rw [val_main_v85_apply]
  unfold Spec.out1 Spec.lin1
  refine Finset.sum_congr rfl fun k _ => ?_
  rw [s84, val_main_v1_apply]
  exact congrArg₂ (· * ·) rfl (congrArg _ (funext fun a => by fin_cases a <;> rfl))

/-- Its root mean square. -/
theorem s93 (i : S128x2048x1.Idx) :
    val_main_v93 (F := Ideal) x0 x1 x4 x5 x6 x8 i = Spec.rms (Spec.out1 (M0 x4) (M1 x5) (K x0 x1 x6 x8 (i 0))) (i 1) := by
  rw [val_main_v93_apply, val_main_v92_apply, val_main_v90_apply, val_main_v88_apply, val_main_v87_apply]
  refine congrArg (fun t => Ideal.sqrt (Ideal.div t (w32 0x42800000#32) + w32 0x322BCC77#32)) (init_sum fun k => ?_)
  rw [val_main_v86_apply, s85]; rfl

/-- The normalised output. -/
theorem s95 (i : S128x2048x64.Idx) :
    val_main_v95 (F := Ideal) x0 x1 x4 x5 x6 x8 i = Spec.nrm (Spec.out1 (M0 x4) (M1 x5) (K x0 x1 x6 x8 (i 0))) (i 1) (i 2) := by
  rw [val_main_v95_apply, s85, val_main_v94_apply, s93]; rfl

/-- The gradient at the prediction. -/
theorem s102 (i : S128x2048x64.Idx) :
    val_main_v102 (F := Ideal) x0 x1 x2 x4 x5 x6 x8 x12 x13 i
      = Spec.dpred (Spec.nrm (Spec.out1 (M0 x4) (M1 x5) (K x0 x1 x6 x8 (i 0)))) (K x0 x1 x6 x8 (i 0)) (V x0 x2 x8 (i 0))
          (T x0 x8 x12 x13 (i 0)) (i 1) (i 2) := by
  have hk : val_main_v33 (F := Ideal) x0 x1 x6 x8 i = K x0 x1 x6 x8 (i 0) (i 1) (i 2) := congrArg _ (eq_ix3 i)
  have hv : val_main_v37 (F := Ideal) x0 x2 x8 i = V x0 x2 x8 (i 0) (i 1) (i 2) := congrArg _ (eq_ix3 i)
  have ht : val_main_v73 (F := Ideal) x0 x8 x12 x13 (idx_main_v97 (idx_main_v101 i)) = T x0 x8 x12 x13 (i 0) (i 1) :=
    congrArg _ (funext fun a => by fin_cases a <;> rfl)
  rw [val_main_v102_apply, val_main_v101_apply, val_main_v99_apply, val_main_v97_apply, val_main_v100_apply, val_main_v96_apply,
    s95, hk, hv, ht]
  rfl

/-- The sum over a position's channels of the gradient at the prediction times the normalised output. -/
theorem s104 (i : S128x2048.Idx) :
    val_main_v104 (F := Ideal) x0 x1 x2 x4 x5 x6 x8 x12 x13 i
      = ∑ e, Spec.dpred (Spec.nrm (Spec.out1 (M0 x4) (M1 x5) (K x0 x1 x6 x8 (i 0)))) (K x0 x1 x6 x8 (i 0)) (V x0 x2 x8 (i 0))
          (T x0 x8 x12 x13 (i 0)) (i 1) e * Spec.nrm (Spec.out1 (M0 x4) (M1 x5) (K x0 x1 x6 x8 (i 0))) (i 1) e := by
  rw [val_main_v104_apply]
  refine init_sum fun k => ?_
  rw [val_main_v103_apply, s102, s95]; rfl

/-- The gradient at the second layer's output. -/
theorem s112 (i : S128x2048x64.Idx) :
    val_main_v112 (F := Ideal) x0 x1 x2 x4 x5 x6 x8 x12 x13 i
      = Spec.dh (K x0 x1 x6 x8 (i 0)) (V x0 x2 x8 (i 0)) (T x0 x8 x12 x13 (i 0)) (M0 x4) (M1 x5) (i 1) (i 2) := by
  rw [val_main_v112_apply, val_main_v110_apply, val_main_v109_apply, val_main_v107_apply, val_main_v106_apply, val_main_v105_apply,
    s104, val_main_v111_apply, s93, s102, s95]
  rfl

/-- The second layer's weight gradient. -/
theorem s113 (i : S128x256x64.Idx) :
    val_main_v113 (F := Ideal) x0 x1 x2 x4 x5 x6 x8 x12 x13 i
      = Spec.g1 (K x0 x1 x6 x8 (i 0)) (V x0 x2 x8 (i 0)) (T x0 x8 x12 x13 (i 0)) (M0 x4) (M1 x5) (i 1) (i 2) := by
  rw [val_main_v113_apply]
  unfold Spec.g1 Spec.grad1
  refine Finset.sum_congr rfl fun k _ => ?_
  rw [s84, s112]; rfl

/-- The gradient at the hidden layer before its GELU. -/
theorem s131 (i : S128x2048x256.Idx) :
    val_main_v131 (F := Ideal) x0 x1 x2 x4 x5 x6 x8 x12 x13 i
      = Spec.back (M1 x5) (Spec.dh (K x0 x1 x6 x8 (i 0)) (V x0 x2 x8 (i 0)) (T x0 x8 x12 x13 (i 0)) (M0 x4) (M1 x5)) (i 1) (i 2)
          * Spec.geluGrad (Spec.lin0 (M0 x4) (K x0 x1 x6 x8 (i 0)) (i 1) (i 2)) := by
  have h : val_main_v130 (F := Ideal) x0 x1 x4 x6 x8 i = Spec.geluGrad (val_main_v76 (F := Ideal) x0 x1 x4 x6 x8 i) := rfl
  rw [val_main_v131_apply, h, s76, val_main_v115_apply]
  unfold Spec.back
  refine congrArg (· * Spec.geluGrad _) (Finset.sum_congr rfl fun k _ => ?_)
  rw [s112, val_main_v114_apply, val_main_v1_apply]
  exact congrArg₂ (· * ·) rfl (congrArg _ (funext fun a => by fin_cases a <;> rfl))

/-- The first layer's weight gradient. -/
theorem s132 (i : S128x64x256.Idx) :
    val_main_v132 (F := Ideal) x0 x1 x2 x4 x5 x6 x8 x12 x13 i
      = Spec.g0 (K x0 x1 x6 x8 (i 0)) (V x0 x2 x8 (i 0)) (T x0 x8 x12 x13 (i 0)) (M0 x4) (M1 x5) (i 1) (i 2) := by
  rw [val_main_v132_apply]
  unfold Spec.g0 Spec.grad0
  refine Finset.sum_congr rfl fun k _ => ?_
  rw [s131]
  exact congrArg (· * _) (congrArg _ (funext fun a => by fin_cases a <;> rfl))

/-- The first layer's gradient's sum of squares. -/
theorem s135 (i : S128.Idx) :
    val_main_v135 (F := Ideal) x0 x1 x2 x4 x5 x6 x8 x12 x13 i = ∑ a, ∑ b,
      Spec.g0 (K x0 x1 x6 x8 (i 0)) (V x0 x2 x8 (i 0)) (T x0 x8 x12 x13 (i 0)) (M0 x4) (M1 x5) a b
        * Spec.g0 (K x0 x1 x6 x8 (i 0)) (V x0 x2 x8 (i 0)) (T x0 x8 x12 x13 (i 0)) (M0 x4) (M1 x5) a b := by
  rw [val_main_v135_apply]
  refine (init_sum fun k => rfl).trans (flat_sum (m := 64) (n := 256) _ _ fun a b k hk => ?_)
  have hi : idx_main_v133 (idx_main_v135 i k) = ix3 (i 0) a b := funext fun c => Fin.ext (by
    have h1 : (i 0).val < 128 := (i 0).isLt
    have h2 := a.isLt
    have h3 := b.isLt
    fin_cases c
    · show ((i 0).val * 16384 + k.val) / 16384 = (i 0).val; omega
    · show ((i 0).val * 16384 + k.val) / 256 % 64 = a.val; omega
    · show ((i 0).val * 16384 + k.val) % 256 = b.val; omega)
  rw [val_main_v134_apply, val_main_v133_apply]
  have hs := (congrArg (val_main_v132 (F := Ideal) x0 x1 x2 x4 x5 x6 x8 x12 x13) hi).trans (s132 x0 x1 x2 x4 x5 x6 x8 x12 x13 (ix3 (i 0) a b))
  exact congrArg₂ (· * ·) hs hs

/-- The second layer's gradient's sum of squares. -/
theorem s140 (i : S128.Idx) :
    val_main_v140 (F := Ideal) x0 x1 x2 x4 x5 x6 x8 x12 x13 i = ∑ a, ∑ b,
      Spec.g1 (K x0 x1 x6 x8 (i 0)) (V x0 x2 x8 (i 0)) (T x0 x8 x12 x13 (i 0)) (M0 x4) (M1 x5) a b
        * Spec.g1 (K x0 x1 x6 x8 (i 0)) (V x0 x2 x8 (i 0)) (T x0 x8 x12 x13 (i 0)) (M0 x4) (M1 x5) a b := by
  rw [val_main_v140_apply]
  refine (init_sum fun k => rfl).trans (flat_sum (m := 256) (n := 64) _ _ fun a b k hk => ?_)
  have hi : idx_main_v138 (idx_main_v140 i k) = ix3 (i 0) a b := funext fun c => Fin.ext (by
    have h1 : (i 0).val < 128 := (i 0).isLt
    have h2 := a.isLt
    have h3 := b.isLt
    fin_cases c
    · show ((i 0).val * 16384 + k.val) / 16384 = (i 0).val; omega
    · show ((i 0).val * 16384 + k.val) / 64 % 256 = a.val; omega
    · show ((i 0).val * 16384 + k.val) % 64 = b.val; omega)
  rw [val_main_v139_apply, val_main_v138_apply]
  have hs := (congrArg (val_main_v113 (F := Ideal) x0 x1 x2 x4 x5 x6 x8 x12 x13) hi).trans (s113 x0 x1 x2 x4 x5 x6 x8 x12 x13 (ix3 (i 0) a b))
  exact congrArg₂ (· * ·) hs hs

/-- The clipping factor. -/
theorem s148 (i : S128.Idx) :
    val_main_v148 (F := Ideal) x0 x1 x2 x4 x5 x6 x8 x12 x13 i
      = Spec.cf (K x0 x1 x6 x8 (i 0)) (V x0 x2 x8 (i 0)) (T x0 x8 x12 x13 (i 0)) (M0 x4) (M1 x5) := by
  rw [val_main_v148_apply, val_main_v146_apply, val_main_v144_apply, val_main_v142_apply, val_main_v141_apply, val_main_v137_apply,
    s135, s140]
  unfold Spec.cf
  refine congrArg (fun t => Spec.clip (t + _)) ?_
  exact (congrArg (· + _) Algebra.w32_zero).trans (zero_add _)

/-- One minus the mean forgetting gate. -/
theorem s166 (i : S128x1x1.Idx) :
    val_main_v166 (F := Ideal) x0 x8 x10 x11 i = Spec.keep (A x0 x8 x10 x11 (i 0)) := by
  rw [val_main_v166_apply, val_main_v157_apply, val_main_v156_apply, val_main_v154_apply]
  refine congrArg (fun t => w32 0x3F800000#32 - Ideal.div t (w32 0x45000000#32)) (init_sum fun k => ?_)
  exact congrArg _ (funext fun a => by fin_cases a <;> rfl)

/-- The mean momentum gate. -/
theorem s161 (i : S128x1x1.Idx) :
    val_main_v161 (F := Ideal) x0 x8 x14 x15 i = Spec.mom (E x0 x8 x14 x15 (i 0)) := by
  rw [val_main_v161_apply, val_main_v160_apply, val_main_v158_apply]
  refine congrArg (fun t => Ideal.div t (w32 0x45000000#32)) (init_sum fun k => ?_)
  exact congrArg _ (funext fun a => by fin_cases a <;> rfl)

/-- A choice by a comparison's bit is the choice by the comparison. -/
theorem select_lt (x w t : EReal) :
    Scalar.select (Ideal.cmp .olt (max x (-x)) t) x w = if max x (-x) < t then x else w := by
  by_cases h : max x (-x) < t <;> simp [Scalar.select, Ideal.cmp, h]

/-- The first layer after the update. -/
theorem s173 (i : S128x64x256.Idx) :
    val_main_v173 (F := Ideal) x0 x1 x2 x4 x5 x6 x8 x10 x11 x12 x13 x14 x15 i
      = Spec.nw0 (K x0 x1 x6 x8 (i 0)) (V x0 x2 x8 (i 0)) (T x0 x8 x12 x13 (i 0)) (A x0 x8 x10 x11 (i 0)) (E x0 x8 x14 x15 (i 0))
          (M0 x4) (M1 x5) (i 1) (i 2) := by
  have hw : val_main_v0 (F := Ideal) x4 i = M0 x4 (i 1) (i 2) := by
    rw [val_main_v0_apply]; exact congrArg _ (funext fun a => by fin_cases a <;> rfl)
  have hx : val_main_v169 (F := Ideal) x0 x1 x2 x4 x5 x6 x8 x10 x11 x12 x13 x14 x15 i
      = Spec.keep (A x0 x8 x10 x11 (i 0)) * M0 x4 (i 1) (i 2) + (Spec.mom (E x0 x8 x14 x15 (i 0)) * w32 0x00000000#32
        - Spec.g0 (K x0 x1 x6 x8 (i 0)) (V x0 x2 x8 (i 0)) (T x0 x8 x12 x13 (i 0)) (M0 x4) (M1 x5) (i 1) (i 2)
          * Spec.cf (K x0 x1 x6 x8 (i 0)) (V x0 x2 x8 (i 0)) (T x0 x8 x12 x13 (i 0)) (M0 x4) (M1 x5)) := by
    rw [val_main_v169_apply, val_main_v168_apply, val_main_v167_apply, s166, hw, val_main_v164_apply, val_main_v163_apply,
      val_main_v162_apply, s161, val_main_v151_apply, s132, val_main_v150_apply, val_main_v149_apply, s148]
    rfl
  unfold Spec.nw0 Spec.upd
  rw [← hx, ← hw]
  exact select_lt _ _ _

/-- The second layer after the update. -/
theorem s185 (i : S128x256x64.Idx) :
    val_main_v185 (F := Ideal) x0 x1 x2 x4 x5 x6 x8 x10 x11 x12 x13 x14 x15 i
      = Spec.nw1 (K x0 x1 x6 x8 (i 0)) (V x0 x2 x8 (i 0)) (T x0 x8 x12 x13 (i 0)) (A x0 x8 x10 x11 (i 0)) (E x0 x8 x14 x15 (i 0))
          (M0 x4) (M1 x5) (i 1) (i 2) := by
  have hw : val_main_v1 (F := Ideal) x5 i = M1 x5 (i 1) (i 2) := by
    rw [val_main_v1_apply]; exact congrArg _ (funext fun a => by fin_cases a <;> rfl)
  have hx : val_main_v181 (F := Ideal) x0 x1 x2 x4 x5 x6 x8 x10 x11 x12 x13 x14 x15 i
      = Spec.keep (A x0 x8 x10 x11 (i 0)) * M1 x5 (i 1) (i 2) + (Spec.mom (E x0 x8 x14 x15 (i 0)) * w32 0x00000000#32
        - Spec.g1 (K x0 x1 x6 x8 (i 0)) (V x0 x2 x8 (i 0)) (T x0 x8 x12 x13 (i 0)) (M0 x4) (M1 x5) (i 1) (i 2)
          * Spec.cf (K x0 x1 x6 x8 (i 0)) (V x0 x2 x8 (i 0)) (T x0 x8 x12 x13 (i 0)) (M0 x4) (M1 x5)) := by
    have hk : val_main_v178 (F := Ideal) x0 x8 x10 x11 = val_main_v166 (F := Ideal) x0 x8 x10 x11 := rfl
    rw [val_main_v181_apply, val_main_v180_apply, val_main_v179_apply, hk, s166, hw, val_main_v176_apply, val_main_v175_apply,
      val_main_v174_apply, s161, val_main_v153_apply, s113, val_main_v152_apply, val_main_v149_apply, s148]
    rfl
  unfold Spec.nw1 Spec.upd
  rw [← hx, ← hw]
  exact select_lt _ _ _

/-- The updated first layer on the queries. -/
theorem s216 (i : S128x2048x256.Idx) :
    val_main_v216 (F := Ideal) x0 x1 x2 x3 x4 x5 x6 x7 x8 x9 x10 x11 x12 x13 x14 x15 i
      = Spec.lin0 (Spec.nw0 (K x0 x1 x6 x8 (i 0)) (V x0 x2 x8 (i 0)) (T x0 x8 x12 x13 (i 0)) (A x0 x8 x10 x11 (i 0))
          (E x0 x8 x14 x15 (i 0)) (M0 x4) (M1 x5)) (Q x0 x3 x7 x9 (i 0)) (i 1) (i 2) := by
  rw [val_main_v216_apply]
  refine Finset.sum_congr rfl fun k _ => ?_
  rw [s173]
  exact congrArg (· * _) (congrArg _ (funext fun a => by fin_cases a <;> rfl))

/-- The updated memory on the queries. -/
theorem s225 (i : S128x2048x64.Idx) :
    val_main_v225 (F := Ideal) x0 x1 x2 x3 x4 x5 x6 x7 x8 x9 x10 x11 x12 x13 x14 x15 i
      = Spec.out1 (Spec.nw0 (K x0 x1 x6 x8 (i 0)) (V x0 x2 x8 (i 0)) (T x0 x8 x12 x13 (i 0)) (A x0 x8 x10 x11 (i 0))
          (E x0 x8 x14 x15 (i 0)) (M0 x4) (M1 x5)) (Spec.nw1 (K x0 x1 x6 x8 (i 0)) (V x0 x2 x8 (i 0)) (T x0 x8 x12 x13 (i 0))
          (A x0 x8 x10 x11 (i 0)) (E x0 x8 x14 x15 (i 0)) (M0 x4) (M1 x5)) (Q x0 x3 x7 x9 (i 0)) (i 1) (i 2) := by
  rw [val_main_v225_apply]
  unfold Spec.out1 Spec.lin1
  refine Finset.sum_congr rfl fun k _ => ?_
  have h (j : S128x2048x256.Idx) : val_main_v224 (F := Ideal) x0 x1 x2 x3 x4 x5 x6 x7 x8 x9 x10 x11 x12 x13 x14 x15 j
      = Spec.gelu (val_main_v216 (F := Ideal) x0 x1 x2 x3 x4 x5 x6 x7 x8 x9 x10 x11 x12 x13 x14 x15 j) := rfl
  rw [h, s216, s185]; rfl

/-- Three guards in turn — against a number that is not itself, positive infinity, negative infinity — are `fin`. -/
theorem guards (x : EReal) :
    (let y := Scalar.select (Ideal.cmp .une x x) (w32 0x00000000#32) x
     let z := Scalar.select (Ideal.cmp .oeq y (w32 0x7F800000#32)) (w32 0x00000000#32) y
     Scalar.select (Ideal.cmp .oeq z (w32 0xFF800000#32)) (w32 0x00000000#32) z) = Spec.fin x := by
  rw [Algebra.w32_zero, Algebra.w32_top, Algebra.w32_bot]
  induction x with
  | bot => simp [Scalar.select, Ideal.cmp, Spec.fin]
  | top => simp [Scalar.select, Ideal.cmp, Spec.fin]
  | coe r => simp [Scalar.select, Ideal.cmp, Spec.fin]

/-- The guarded reading. -/
theorem s226 (i : S128x2048x64.Idx) :
    val_main_v226 (F := Ideal) x0 x1 x2 x3 x4 x5 x6 x7 x8 x9 x10 x11 x12 x13 x14 x15 i
      = Spec.rd (K x0 x1 x6 x8 (i 0)) (V x0 x2 x8 (i 0)) (T x0 x8 x12 x13 (i 0)) (A x0 x8 x10 x11 (i 0)) (E x0 x8 x14 x15 (i 0))
          (M0 x4) (M1 x5) (Q x0 x3 x7 x9 (i 0)) (i 1) (i 2) := by
  have h : val_main_v226 (F := Ideal) x0 x1 x2 x3 x4 x5 x6 x7 x8 x9 x10 x11 x12 x13 x14 x15 i
      = Spec.fin (val_main_v225 (F := Ideal) x0 x1 x2 x3 x4 x5 x6 x7 x8 x9 x10 x11 x12 x13 x14 x15 i) := guards _
  rw [h, s225]; rfl

/-- ONE HEAD of the reference before the heads are merged. -/
theorem s237 (i : S128x2048x64.Idx) :
    val_main_v237 (F := Ideal) x0 x1 x2 x3 x4 x5 x6 x7 x8 x9 x10 x11 x12 x13 x14 x15 i
      = Spec.head (K x0 x1 x6 x8 (i 0)) (V x0 x2 x8 (i 0)) (T x0 x8 x12 x13 (i 0)) (A x0 x8 x10 x11 (i 0)) (E x0 x8 x14 x15 (i 0))
          (M0 x4) (M1 x5) (Q x0 x3 x7 x9 (i 0)) (i 1) (i 2) := by
  have hq : val_main_v215 (F := Ideal) x0 x3 x7 x9 i = Q x0 x3 x7 x9 (i 0) (i 1) (i 2) := congrArg _ (eq_ix3 i)
  rw [val_main_v237_apply, val_main_v236_apply, val_main_v235_apply, val_main_v234_apply, val_main_v233_apply, val_main_v231_apply,
    val_main_v229_apply, val_main_v228_apply, s226, hq]
  unfold Spec.head Spec.nrm Spec.rms Spec.msq
  refine congrArg (fun t => Ideal.div _ (Ideal.sqrt (Ideal.div t (w32 0x42800000#32) + w32 0x322BCC77#32)) + _) (init_sum fun k => ?_)
  rw [val_main_v227_apply, s226]; rfl

end Cert.Proof.RefHead
-- ==== Proof.RefProj.lean ====
/- The reference's projections read at an index where the four normalisation weights are one: a head's keys, values,
   queries and gates as functions of the input; and the merged heads. -/
module

public import proofs.«01_k».proof.Proof.RefHead

@[expose] public section

noncomputable section

namespace Cert.Proof.RefProj

open Idealize.ShloMosaic Idealize.ShloMosaic.ValueIdx Cert.ReferenceIdeal Cert.ReferenceIdeal.Gen Cert.ReferenceIdeal.Read
open Cert.Proof.Spec (w32 Rows Hid Gate Mat0 Mat1)
open Cert.Proof Cert.Proof.RefHead
open scoped BigOperators

variable (x0 : Arr S8x2048x1024) (x1 x2 x3 : Arr S1024x1024) (x4 : Arr S64x256) (x5 : Arr S256x64) (x6 x7 : Arr S64) (x8 x9 : Arr S1024)
  (x10 : Arr S1024x16) (x11 : Arr S16) (x12 : Arr S1024x16) (x13 : Arr S16) (x14 : Arr S1024x16) (x15 : Arr S16)

/-- The input by batch, position and channel. -/
def X : Spec.Input := fun b s c => x0 (ix3 b s c)
/-- A projection's weights by row and column. -/
def W (w : Arr S1024x1024) : Fin 1024 → Fin 1024 → EReal := fun c e => w (ix2 c e)
/-- A gate's weights by row and head. -/
def G (w : Arr S1024x16) : Fin 1024 → Fin 16 → EReal := fun c h => w (ix2 c h)
/-- A gate's bias by head. -/
def B (w : Arr S16) : Fin 16 → EReal := fun h => w (ix1 h)

/-- The batch of a head-and-batch row. -/
def bat (r : Fin 128) : Fin 8 := ⟨r.val / 16, by omega⟩
/-- Its head. -/
def hd (r : Fin 128) : Fin 16 := ⟨r.val % 16, by omega⟩

/-- The normalised input of the keys, values and gates. -/
theorem s16 (h8 : ∀ i, x8 i = 1) (i : S8x2048x1024.Idx) :
    val_main_v16 (F := Ideal) x0 x8 i = Spec.xn (X x0 (i 0) (i 1)) (i 2) := by
  have hx : x0 i = X x0 (i 0) (i 1) (i 2) := congrArg x0 (eq_ix3 i)
  have hm : val_main_v6 (F := Ideal) x0 x8 i = x0 i := by
    rw [val_main_v6_apply, val_main_v5_apply, val_main_v4_apply, h8]; exact mul_one _
  rw [val_main_v16_apply, hm, hx, val_main_v15_apply, val_main_v14_apply, val_main_v13_apply, val_main_v11_apply, val_main_v9_apply,
    val_main_v8_apply]
  refine congrArg (fun t => X x0 (i 0) (i 1) (i 2) * Ideal.rsqrt (Ideal.div t (w32 0x44800000#32) + w32 0x358637BD#32)) (init_sum fun k => ?_)
  have hk : x0 (idx_main_v8 (idx_main_v9 (idx_main_v15 i)) k) = X x0 (i 0) (i 1) k :=
    congrArg x0 (funext fun a => by fin_cases a <;> rfl)
  exact congrArg₂ (· * ·) hk hk

/-- The normalised input of the queries. -/
theorem s198 (h9 : ∀ i, x9 i = 1) (i : S8x2048x1024.Idx) :
    val_main_v198 (F := Ideal) x0 x9 i = Spec.xn (X x0 (i 0) (i 1)) (i 2) := by
  have h : val_main_v198 (F := Ideal) x0 x9 = val_main_v16 (F := Ideal) x0 x9 := rfl
  rw [h, s16 x0 x9 h9]

/-- The element of the head-major projection that a row reads. -/
theorem idx_row (i : S128x2048x64.Idx) : idx_main_v20 i = ix4 (bat (i 0)) (hd (i 0)) (i 1) (i 2) := funext fun a => Fin.ext (by
  have h0 : (i 0).val < 128 := (i 0).isLt
  have h1 : (i 1).val < 2048 := (i 1).isLt
  have h2 : (i 2).val < 64 := (i 2).isLt
  fin_cases a
  · show (((i 0).val * 2048 + (i 1).val) * 64 + (i 2).val) / 2097152 = (i 0).val / 16; omega
  · show (((i 0).val * 2048 + (i 1).val) * 64 + (i 2).val) / 131072 % 16 = (i 0).val % 16; omega
  · show (((i 0).val * 2048 + (i 1).val) * 64 + (i 2).val) / 64 % 2048 = (i 1).val; omega
  · show (((i 0).val * 2048 + (i 1).val) * 64 + (i 2).val) % 64 = (i 2).val; omega)

/-- The element of a projection that a head's channel reads. -/
theorem idx_head (b : Fin 8) (h : Fin 16) (s : Fin 2048) (d : Fin 64) :
    idx_main_v18 (idx_main_v19 (ix4 b h s d)) = ix3 b s (Spec.chan h d) := funext fun a => Fin.ext (by
  have h0 := b.isLt
  have h1 := s.isLt
  have h2 := h.isLt
  have h3 := d.isLt
  fin_cases a
  · show (((b.val * 2048 + s.val) * 16 + h.val) * 64 + d.val) / 2097152 = b.val; omega
  · show (((b.val * 2048 + s.val) * 16 + h.val) * 64 + d.val) / 1024 % 2048 = s.val; omega
  · show (((b.val * 2048 + s.val) * 16 + h.val) * 64 + d.val) % 1024 = h.val * 64 + d.val; omega)

/-- A projection before its heads are split. -/
theorem s17 (h8 : ∀ i, x8 i = 1) (b : Fin 8) (s : Fin 2048) (e : Fin 1024) :
    val_main_v17 (F := Ideal) x0 x1 x8 (ix3 b s e) = Spec.dot (Spec.xn (X x0 b s)) fun c => W x1 c e := by
  rw [val_main_v17_apply]
  unfold Spec.dot
  refine Finset.sum_congr rfl fun k _ => ?_
  rw [s16 x0 x8 h8]
  exact congrArg₂ (· * ·) rfl (congrArg x1 (funext fun a => by fin_cases a <;> rfl))

/-- A head's projection through the keys' weights. -/
theorem s20 (h8 : ∀ i, x8 i = 1) (i : S128x2048x64.Idx) :
    val_main_v20 (F := Ideal) x0 x1 x8 i = Spec.proj (X x0) (W x1) (bat (i 0)) (hd (i 0)) (i 1) (i 2) := by
  rw [val_main_v20_apply, val_main_v19_apply, val_main_v18_apply, idx_row]
  exact (congrArg (val_main_v17 (F := Ideal) x0 x1 x8) (idx_head _ _ _ _)).trans (s17 x0 x1 x8 h8 _ _ _)

/-- The values: the same projection through their weights. -/
theorem V_eq (h8 : ∀ i, x8 i = 1) (r : Fin 128) : V x0 x2 x8 r = Spec.proj (X x0) (W x2) (bat r) (hd r) := by
  have h : val_main_v37 (F := Ideal) x0 x2 x8 = val_main_v20 (F := Ideal) x0 x2 x8 := rfl
  funext s d
  unfold V
  rw [h, s20 x0 x2 x8 h8]

/-- The keys: the projection, normalised. -/
theorem K_eq (h8 : ∀ i, x8 i = 1) (h6 : ∀ i, x6 i = 1) (r : Fin 128) :
    K x0 x1 x6 x8 r = Spec.nproj (X x0) (W x1) (bat r) (hd r) := by
  funext s d
  unfold K
  have hm : val_main_v23 (F := Ideal) x0 x1 x6 x8 (ix3 r s d) = val_main_v20 (F := Ideal) x0 x1 x8 (ix3 r s d) := by
    rw [val_main_v23_apply, val_main_v22_apply, val_main_v21_apply, h6]; exact mul_one _
  rw [val_main_v33_apply, hm, val_main_v32_apply, val_main_v31_apply, val_main_v30_apply, val_main_v28_apply, val_main_v26_apply,
    val_main_v25_apply, s20 x0 x1 x8 h8]
  unfold Spec.nproj Spec.hn
  refine congrArg (fun t => Spec.proj (X x0) (W x1) (bat r) (hd r) s d
    * Ideal.rsqrt (Ideal.div t (w32 0x42800000#32) + w32 0x358637BD#32)) (init_sum fun k => ?_)
  rw [val_main_v24_apply, s20 x0 x1 x8 h8]; rfl

/-- The queries: the same, through their weights. -/
theorem Q_eq (h9 : ∀ i, x9 i = 1) (h7 : ∀ i, x7 i = 1) (r : Fin 128) :
    Q x0 x3 x7 x9 r = Spec.nproj (X x0) (W x3) (bat r) (hd r) := by
  have h : val_main_v215 (F := Ideal) x0 x3 x7 x9 = val_main_v33 (F := Ideal) x0 x3 x7 x9 := rfl
  rw [← K_eq x0 x3 x7 x9 h9 h7]
  unfold Q K
  rw [h]

/-- The element of a gate that a head reads. -/
theorem idx_gate (i : S128x2048.Idx) : idx_main_v70 (idx_main_v71 i) = ix3 (bat (i 0)) (i 1) (hd (i 0)) := funext fun a => Fin.ext (by
  have h0 : (i 0).val < 128 := (i 0).isLt
  have h1 : (i 1).val < 2048 := (i 1).isLt
  fin_cases a
  · show ((i 0).val * 2048 + (i 1).val) / 32768 = (i 0).val / 16; omega
  · show ((i 0).val * 2048 + (i 1).val) % 2048 = (i 1).val; omega
  · show ((i 0).val * 2048 + (i 1).val) / 2048 % 16 = (i 0).val % 16; omega)

/-- The gate the reference computes at a position and head. -/
theorem s47 (h8 : ∀ i, x8 i = 1) (i : S8x2048x16.Idx) :
    val_main_v47 (F := Ideal) x0 x8 x10 x11 i = Spec.gate (X x0) (G x10) (B x11) (i 0) (i 2) (i 1) := by
  have h : val_main_v47 (F := Ideal) x0 x8 x10 x11 i = Spec.sig (val_main_v41 (F := Ideal) x0 x8 x10 x11 i) := rfl
  rw [h, val_main_v41_apply, val_main_v40_apply, val_main_v39_apply, val_main_v38_apply]
  unfold Spec.gate Spec.dot
  have hb : x11 (idx_main_v39 (idx_main_v40 i)) = B x11 (i 2) := congrArg x11 (funext fun a => by fin_cases a; rfl)
  have hs : (∑ k : Fin 1024, val_main_v16 (F := Ideal) x0 x8 (lidx_main_v38 i k) * x10 (ridx_main_v38 i k))
      = ∑ c, Spec.xn (X x0 (i 0) (i 1)) c * G x10 c (i 2) := Finset.sum_congr rfl fun k _ => by
    rw [s16 x0 x8 h8]
    exact congrArg₂ (· * ·) rfl (congrArg x10 (funext fun a => by fin_cases a <;> rfl))
  rw [hb, hs]; rfl

/-- The forgetting gates. -/
theorem A_eq (h8 : ∀ i, x8 i = 1) (r : Fin 128) :
    A x0 x8 x10 x11 r = Spec.gate (X x0) (G x10) (B x11) (bat r) (hd r) := by
  funext s
  unfold A
  rw [val_main_v71_apply, val_main_v70_apply]
  exact (congrArg (val_main_v47 (F := Ideal) x0 x8 x10 x11) (idx_gate (ix2 r s))).trans (s47 x0 x8 x10 x11 h8 (ix3 (bat r) s (hd r)))

/-- The learning rates: the gate times the greatest rate. -/
theorem T_eq (h8 : ∀ i, x8 i = 1) (r : Fin 128) :
    RefHead.T x0 x8 x12 x13 r = fun s => Spec.gate (X x0) (G x12) (B x13) (bat r) (hd r) s * w32 0x3C23D70A#32 := by
  funext s
  unfold RefHead.T
  rw [val_main_v73_apply, val_main_v72_apply]
  refine (congrArg (val_main_v59 (F := Ideal) x0 x8 x12 x13) (idx_gate (ix2 r s))).trans ?_
  have h : val_main_v57 (F := Ideal) x0 x8 x12 x13 = val_main_v47 (F := Ideal) x0 x8 x12 x13 := rfl
  refine (val_main_v59_apply x0 x8 x12 x13 _).trans ?_
  exact congrArg (· * w32 0x3C23D70A#32) ((congrFun h _).trans <| s47 x0 x8 x12 x13 h8 (ix3 (bat r) s (hd r)))

/-- The row of batch `b` and head `h`. -/
def row (b : Fin 8) (h : Fin 16) : Fin 128 := ⟨b.val * 16 + h.val, by omega⟩

/-- THE REFERENCE at batch `b`, position `s`, channel `d` of head `h`, where the normalisation weights are one. -/
theorem result (h6 : ∀ i, x6 i = 1) (h7 : ∀ i, x7 i = 1) (h8 : ∀ i, x8 i = 1) (h9 : ∀ i, x9 i = 1)
    (b : Fin 8) (s : Fin 2048) (h : Fin 16) (d : Fin 64) :
    val_main_v240 (F := Ideal) x0 x1 x2 x3 x4 x5 x6 x7 x8 x9 x10 x11 x12 x13 x14 x15 (ix3 b s (Spec.chan h d))
      = Spec.head (Spec.nproj (X x0) (W x1) b h) (Spec.proj (X x0) (W x2) b h)
          (fun s => Spec.gate (X x0) (G x12) (B x13) b h s * w32 0x3C23D70A#32) (Spec.gate (X x0) (G x10) (B x11) b h)
          (E x0 x8 x14 x15 (row b h)) (M0 x4) (M1 x5) (Spec.nproj (X x0) (W x3) b h) s d := by
  have hi : idx_main_v240 (ix3 b s (Spec.chan h d)) = ix4 b s h d := funext fun a => Fin.ext (by
    have h0 := b.isLt
    have h1 := s.isLt
    have h2 := h.isLt
    have h3 := d.isLt
    fin_cases a
    · show ((b.val * 2048 + s.val) * 1024 + (h.val * 64 + d.val)) / 2097152 = b.val; omega
    · show ((b.val * 2048 + s.val) * 1024 + (h.val * 64 + d.val)) / 1024 % 2048 = s.val; omega
    · show ((b.val * 2048 + s.val) * 1024 + (h.val * 64 + d.val)) / 64 % 16 = h.val; omega
    · show ((b.val * 2048 + s.val) * 1024 + (h.val * 64 + d.val)) % 64 = d.val; omega)
  have hj : idx_main_v238 (idx_main_v239 (ix4 b s h d)) = ix3 (row b h) s d := funext fun a => Fin.ext (by
    have h0 := b.isLt
    have h1 := s.isLt
    have h2 := h.isLt
    have h3 := d.isLt
    fin_cases a
    · show (((b.val * 16 + h.val) * 2048 + s.val) * 64 + d.val) / 131072 = b.val * 16 + h.val; omega
    · show (((b.val * 16 + h.val) * 2048 + s.val) * 64 + d.val) / 64 % 2048 = s.val; omega
    · show (((b.val * 16 + h.val) * 2048 + s.val) * 64 + d.val) % 64 = d.val; omega)
  have hb : bat (row b h) = b := Fin.ext (by show (b.val * 16 + h.val) / 16 = b.val; omega)
  have hh : hd (row b h) = h := Fin.ext (by show (b.val * 16 + h.val) % 16 = h.val; omega)
  rw [val_main_v240_apply, hi, val_main_v239_apply, val_main_v238_apply, hj]
  refine (s237 x0 x1 x2 x3 x4 x5 x6 x7 x8 x9 x10 x11 x12 x13 x14 x15 (ix3 (row b h) s d)).trans ?_
  show Spec.head (K x0 x1 x6 x8 (row b h)) (V x0 x2 x8 (row b h)) (RefHead.T x0 x8 x12 x13 (row b h)) (A x0 x8 x10 x11 (row b h))
    (E x0 x8 x14 x15 (row b h)) (M0 x4) (M1 x5) (Q x0 x3 x7 x9 (row b h)) s d = _
  rw [K_eq x0 x1 x6 x8 h8 h6, V_eq x0 x2 x8 h8, T_eq x0 x8 x12 x13 h8, A_eq x0 x8 x10 x11 h8, Q_eq x0 x3 x7 x9 h9 h7, hb, hh]

end Cert.Proof.RefProj
-- ==== Proof.RefRun.lean ====
/- How the reference's runs end, and what they leave: the same array of heads as the kernel's. -/
module

public import proofs.«01_k».proof.Proof.RefProj
public import proofs.«01_k».proof.Proof.Arrays1
public import Idealize.ShloMosaic.Lib.StableHlo.RunHlo

@[expose] public section

noncomputable section

namespace Cert.Proof.RefRun

open Idealize.ShloMosaic Idealize.ShloMosaic.ValueIdx Idealize.ShloMosaic.TcCoe Idealize.SL.Sem Cert.ReferenceIdeal Cert.ReferenceIdeal.Gen
open Cert.ReferenceIdeal.Read Cert.Proof
open Cert.Proof.RefProj (X W G B row)

section
variable (x0 : FVec Ideal S8x2048x1024 .f32) (x1 x2 x3 : FVec Ideal S1024x1024 .f32) (x4 : FVec Ideal S64x256 .f32) (x5 : FVec Ideal S256x64 .f32)
  (x6 x7 : FVec Ideal S64 .f32) (x8 x9 : FVec Ideal S1024 .f32) (x10 : FVec Ideal S1024x16 .f32) (x11 : FVec Ideal S16 .f32)
  (x12 : FVec Ideal S1024x16 .f32) (x13 : FVec Ideal S16 .f32) (x14 : FVec Ideal S1024x16 .f32) (x15 : FVec Ideal S16 .f32)

/-- The reference's array of heads, where the normalisation weights are one. -/
theorem heads (h6 : ∀ i, x6 i = 1) (h7 : ∀ i, x7 i = 1) (h8 : ∀ i, x8 i = 1) (h9 : ∀ i, x9 i = 1) :
    val_main_v240 (F := Ideal) x0 x1 x2 x3 x4 x5 x6 x7 x8 x9 x10 x11 x12 x13 x14 x15
      = Arrays1.heads (Spec.nproj (X x0) (W x1)) (Spec.proj (X x0) (W x2)) (Spec.gate (X x0) (G x12) (B x13)) (Spec.gate (X x0) (G x10) (B x11))
          (fun b h => RefHead.E x0 x8 x14 x15 (row b h)) (RefHead.M0 x4) (RefHead.M1 x5) (Spec.nproj (X x0) (W x3)) := by
  refine funext fun i => Arrays1.arrayCases (P := fun i => val_main_v240 (F := Ideal) x0 x1 x2 x3 x4 x5 x6 x7 x8 x9 x10 x11 x12 x13 x14 x15 i
    = Arrays1.heads _ _ _ _ _ _ _ _ i) (fun b s e => ?_) i
  refine Arrays0.chanCases (P := fun e => val_main_v240 (F := Ideal) x0 x1 x2 x3 x4 x5 x6 x7 x8 x9 x10 x11 x12 x13 x14 x15 (ix3 b s e)
    = Arrays1.heads _ _ _ _ _ _ _ _ (ix3 b s e)) (fun h d => ?_) e
  rw [RefProj.result _ _ _ _ _ _ _ _ _ _ _ _ _ _ _ _ h6 h7 h8 h9, Arrays1.heads_at]
end

section
variable (m : (ℓ : Loc nD τ sig) → Buf (Elt Ideal) ℓ) (ρ : Dev nD → PrngReg)

/-- An argument at the launch. -/
abbrev arg (c : Dev nD) (a : Ref sig .tc) : Buf (Elt Ideal) ((c : Thread nD τ).loc a) := m ((c : Thread nD τ).loc a)
/-- The result of a device's arguments. -/
def value (c : Dev nD) : FVec Ideal S8x2048x1024 .f32 :=
  val_main_v240 (F := Ideal) (arg m c main_arg0) (arg m c main_arg1) (arg m c main_arg2) (arg m c main_arg3) (arg m c main_arg4) (arg m c main_arg5)
    (arg m c main_arg6) (arg m c main_arg7) (arg m c main_arg8) (arg m c main_arg9) (arg m c main_arg10) (arg m c main_arg11) (arg m c main_arg12)
    (arg m c main_arg13) (arg m c main_arg14) (arg m c main_arg15)

/-- The result's location holds the value of the arguments at the end of every run. -/
theorem ends : θ_run defs (onTc (τ := τ) (main (F := Ideal))) ⟨m, fun _ => 0, ρ⟩ fun r => ∀ c : Dev nD,
    r.2.mem ((c.tc : Thread nD τ).loc main_v240) = value m c :=
  θ_run_mono (Value.run m ρ) fun _ h c => (h c).1.trans (val_main_v240_eq (StableHlo.launchContents m c))
end

end Cert.Proof.RefRun
-- ==== Proof.Run.lean ====
/- How the kernel's runs end: every buffer of the host's at what the run's last boundary holds. -/
module

public import proofs.«01_k».proof.Proof.Gen.KernelIdeal.Frame
public import Idealize.ShloMosaic.Lib.StableHlo.RunHlo

@[expose] public section

noncomputable section

namespace Cert.Proof.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found through a type that unfolds
set_option backward.isDefEq.respectTransparency.types false in
/-- Every run ends with the host's buffers at the last boundary's contents. -/
theorem boundary : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

/-- The result's location holds the last boundary's contents at the end of every run. -/
theorem ends : θ_run defs (onTc (τ := τ) (main (F := F))) ⟨m, fun _ => 0, ρ⟩ (fun r => ∀ c : Dev nD,
      r.2.mem ((c.tc : Thread nD τ).loc main_v9) = W4 m ρ c (Proc.devRef .tc main_v9)) :=
  θ_run_mono (boundary m ρ) fun _ h c => h c _ (mem_uc main_v9 (by decide))

end Cert.Proof.Run
-- ==== Proof.lean ====
/- The certificate: both kernels and the reference run and leave their arguments as they were; and on the extended reals,
   where the four normalisation weights are one, the kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Host
public import proofs.«01_k».proof.Proof.Ones
public import proofs.«01_k».proof.Proof.RefRun
public import proofs.«01_k».proof.Proof.Run
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference leaves its arguments as they were, and no semaphore is raised, for it has none. -/
theorem reference : Cert.quiescent_ReferenceIdeal := fun m g _ =>
  θ_run_mono (Cert.ReferenceIdeal.Value.run m g) fun r h => ⟨fun c => (h c).2, sem_eq_zero_of_no_sems rfl r.2⟩

/-- The kernel's array of heads is the reference's value of the same arguments, where the normalisation weights are one. -/
theorem agree (m : (ℓ : Loc Cert.KernelIdeal.nD Cert.KernelIdeal.τ Cert.KernelIdeal.sig) → Buf (Elt Ideal) ℓ) (g : Dev Cert.KernelIdeal.nD → PrngReg)
    (c : Dev Cert.KernelIdeal.nD) (h : Cert.Pre_KernelIdeal_norm_weights_one (hPre_norm_weights_one := Ones.facts) m) :
    Cert.KernelIdeal.Gen.W4 m g c (Proc.devRef .tc Cert.KernelIdeal.main_v9)
      = Cert.ReferenceIdeal.Read.val_main_v240 (F := Ideal) (Host.arg m c Cert.KernelIdeal.main_arg0) (Host.arg m c Cert.KernelIdeal.main_arg1)
          (Host.arg m c Cert.KernelIdeal.main_arg2) (Host.arg m c Cert.KernelIdeal.main_arg3) (Host.arg m c Cert.KernelIdeal.main_arg4)
          (Host.arg m c Cert.KernelIdeal.main_arg5) (Host.arg m c Cert.KernelIdeal.main_arg6) (Host.arg m c Cert.KernelIdeal.main_arg7)
          (Host.arg m c Cert.KernelIdeal.main_arg8) (Host.arg m c Cert.KernelIdeal.main_arg9) (Host.arg m c Cert.KernelIdeal.main_arg10)
          (Host.arg m c Cert.KernelIdeal.main_arg11) (Host.arg m c Cert.KernelIdeal.main_arg12) (Host.arg m c Cert.KernelIdeal.main_arg13)
          (Host.arg m c Cert.KernelIdeal.main_arg14) (Host.arg m c Cert.KernelIdeal.main_arg15) := by
  obtain ⟨h6, h7, h8, h9⟩ := Ones.ones h c
  rw [RefRun.heads _ _ _ _ _ _ _ _ _ _ _ _ _ _ _ _ h6 h7 h8 h9]
  exact Host.result m g c _

/-- On the extended reals, where the normalisation weights are one, the kernel's result is the reference's. -/
theorem algebraic : Cert.algebraic_KernelIdeal_ReferenceIdeal_pre_norm_weights_one (hPre_norm_weights_one := Ones.facts) :=
  fun m g m' g' hp hm => ⟨fun c => Cert.KernelIdeal.Gen.W4 m g c (Proc.devRef .tc Cert.KernelIdeal.main_v9),
    θ_run_mono (θ_run_and (Run.ends m g) (Cert.KernelIdeal.Gen.unchanged m g)) fun _ h c => ⟨h.1 c, h.2 c⟩,
    θ_run_mono (θ_run_and (RefRun.ends m' g') (Cert.ReferenceIdeal.Value.run m' g')) fun _ h c => ⟨(h.1 c).trans (by
      obtain ⟨h0, h1, h2, h3, h4, h5, h6, h7, h8, h9, h10, h11, h12, h13, h14, h15⟩ := hm c
      refine Eq.trans ?_ (agree m g c hp).symm
      unfold RefRun.value RefRun.arg
      rw [h0, h1, h2, h3, h4, h5, h6, h7, h8, h9, h10, h11, h12, h13, h14, h15]), (h.2 c).2⟩⟩

/-- Everything the certificate claims. -/
theorem claim : Cert.Claim :=
  ⟨Cert.Kernel.Gen.facts, Cert.KernelIdeal.Gen.facts, Cert.ReferenceIdeal.Gen.facts, Ones.facts,
    fun m g _ => Cert.Kernel.Gen.frame m g, fun m g _ => Cert.KernelIdeal.Gen.frame m g, fun m g _ => Cert.KernelIdeal.Gen.frame m g,
    reference, fun m g _ => reference m g trivial, trivial, algebraic⟩

end Cert.Proof

end
